-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_symmetric [hPre_proper_symmetric : Cert.Pre_proper_symmetric.Facts] (m : (ℓ : Loc Cert.KernelIdeal.nD Cert.KernelIdeal.τ Cert.KernelIdeal.sig) → Buf (Elt Ideal) ℓ) : Prop :=
  ∀ c : Dev Cert.KernelIdeal.nD,
    (Cert.Pre_proper_symmetric.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_proper [hPre_proper : Cert.Pre_proper.Facts] (m : (ℓ : Loc Cert.KernelIdeal.nD Cert.KernelIdeal.τ Cert.KernelIdeal.sig) → Buf (Elt Ideal) ℓ) : Prop :=
  ∀ c : Dev Cert.KernelIdeal.nD,
    (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_one_edge [hPre_one_edge : Cert.Pre_one_edge.Facts] (m : (ℓ : Loc Cert.KernelIdeal.nD Cert.KernelIdeal.τ Cert.KernelIdeal.sig) → Buf (Elt Ideal) ℓ) : Prop :=
  ∀ c : Dev Cert.KernelIdeal.nD,
    (Cert.Pre_one_edge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_symmetric [hPre_proper_symmetric : Cert.Pre_proper_symmetric.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_symmetric.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_ReferenceIdeal_one_edge [hPre_one_edge : Cert.Pre_one_edge.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_edge.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_ReferenceWIdeal (m : (ℓ : Loc Cert.ReferenceWIdeal.nD Cert.ReferenceWIdeal.τ Cert.ReferenceWIdeal.sig) → Buf (Elt Ideal) ℓ) : Prop :=
  True

def Pre_ReferenceWIdeal_proper [hPre_proper : Cert.Pre_proper.Facts] (m : (ℓ : Loc Cert.ReferenceWIdeal.nD Cert.ReferenceWIdeal.τ Cert.ReferenceWIdeal.sig) → Buf (Elt Ideal) ℓ) : Prop :=
  ∀ c : Dev Cert.ReferenceWIdeal.nD,
    (Cert.Pre_proper.fn (F := Ideal) (m ((c.tc : Thread Cert.ReferenceWIdeal.nD Cert.ReferenceWIdeal.τ).loc Cert.ReferenceWIdeal.main_arg0)) (m ((c.tc : Thread Cert.ReferenceWIdeal.nD Cert.ReferenceWIdeal.τ).loc Cert.ReferenceWIdeal.main_arg1)) (m ((c.tc : Thread Cert.ReferenceWIdeal.nD Cert.ReferenceWIdeal.τ).loc Cert.ReferenceWIdeal.main_arg2)) (m ((c.tc : Thread Cert.ReferenceWIdeal.nD Cert.ReferenceWIdeal.τ).loc Cert.ReferenceWIdeal.main_arg3)) (m ((c.tc : Thread Cert.ReferenceWIdeal.nD Cert.ReferenceWIdeal.τ).loc Cert.ReferenceWIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_proper_symmetric [hKernelIdeal : Cert.KernelIdeal.Facts] [hPre_proper_symmetric : Cert.Pre_proper_symmetric.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_symmetric m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_proper [hKernelIdeal : Cert.KernelIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_one_edge [hKernelIdeal : Cert.KernelIdeal.Facts] [hPre_one_edge : Cert.Pre_one_edge.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_edge m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_proper_symmetric [hReferenceIdeal : Cert.ReferenceIdeal.Facts] [hPre_proper_symmetric : Cert.Pre_proper_symmetric.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_symmetric m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_one_edge [hReferenceIdeal : Cert.ReferenceIdeal.Facts] [hPre_one_edge : Cert.Pre_one_edge.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_edge m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceWIdeal [hReferenceWIdeal : Cert.ReferenceWIdeal.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0)
      ∧ r.2.mem ((c.tc : Thread Cert.ReferenceWIdeal.nD Cert.ReferenceWIdeal.τ).loc Cert.ReferenceWIdeal.main_arg1) = m ((c.tc : Thread Cert.ReferenceWIdeal.nD Cert.ReferenceWIdeal.τ).loc Cert.ReferenceWIdeal.main_arg1)
      ∧ r.2.mem ((c.tc : Thread Cert.ReferenceWIdeal.nD Cert.ReferenceWIdeal.τ).loc Cert.ReferenceWIdeal.main_arg2) = m ((c.tc : Thread Cert.ReferenceWIdeal.nD Cert.ReferenceWIdeal.τ).loc Cert.ReferenceWIdeal.main_arg2)
      ∧ r.2.mem ((c.tc : Thread Cert.ReferenceWIdeal.nD Cert.ReferenceWIdeal.τ).loc Cert.ReferenceWIdeal.main_arg3) = m ((c.tc : Thread Cert.ReferenceWIdeal.nD Cert.ReferenceWIdeal.τ).loc Cert.ReferenceWIdeal.main_arg3)
      ∧ r.2.mem ((c.tc : Thread Cert.ReferenceWIdeal.nD Cert.ReferenceWIdeal.τ).loc Cert.ReferenceWIdeal.main_arg4) = m ((c.tc : Thread Cert.ReferenceWIdeal.nD Cert.ReferenceWIdeal.τ).loc Cert.ReferenceWIdeal.main_arg4))
      ∧ r.2.sem = fun _ => 0)

def quiescent_ReferenceWIdeal_pre_proper [hReferenceWIdeal : Cert.ReferenceWIdeal.Facts] [hPre_proper : Cert.Pre_proper.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal_proper m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0)
      ∧ r.2.mem ((c.tc : Thread Cert.ReferenceWIdeal.nD Cert.ReferenceWIdeal.τ).loc Cert.ReferenceWIdeal.main_arg1) = m ((c.tc : Thread Cert.ReferenceWIdeal.nD Cert.ReferenceWIdeal.τ).loc Cert.ReferenceWIdeal.main_arg1)
      ∧ r.2.mem ((c.tc : Thread Cert.ReferenceWIdeal.nD Cert.ReferenceWIdeal.τ).loc Cert.ReferenceWIdeal.main_arg2) = m ((c.tc : Thread Cert.ReferenceWIdeal.nD Cert.ReferenceWIdeal.τ).loc Cert.ReferenceWIdeal.main_arg2)
      ∧ r.2.mem ((c.tc : Thread Cert.ReferenceWIdeal.nD Cert.ReferenceWIdeal.τ).loc Cert.ReferenceWIdeal.main_arg3) = m ((c.tc : Thread Cert.ReferenceWIdeal.nD Cert.ReferenceWIdeal.τ).loc Cert.ReferenceWIdeal.main_arg3)
      ∧ r.2.mem ((c.tc : Thread Cert.ReferenceWIdeal.nD Cert.ReferenceWIdeal.τ).loc Cert.ReferenceWIdeal.main_arg4) = m ((c.tc : Thread Cert.ReferenceWIdeal.nD Cert.ReferenceWIdeal.τ).loc Cert.ReferenceWIdeal.main_arg4))
      ∧ r.2.sem = fun _ => 0)

def preserves_Kernel_KernelIdeal : Prop :=
  True

def algebraic_KernelIdeal_ReferenceIdeal_pre_proper_symmetric [hKernelIdeal : Cert.KernelIdeal.Facts] [hReferenceIdeal : Cert.ReferenceIdeal.Facts] [hPre_proper_symmetric : Cert.Pre_proper_symmetric.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_symmetric m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_KernelIdeal_ReferenceWIdeal_pre_proper [hKernelIdeal : Cert.KernelIdeal.Facts] [hReferenceWIdeal : Cert.ReferenceWIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceWIdeal.nD Cert.ReferenceWIdeal.τ Cert.ReferenceWIdeal.sig) → Buf (Elt Ideal) ℓ) (g' : Dev Cert.ReferenceWIdeal.nD → PrngReg), Pre_KernelIdeal_proper m →
    (∀ c : Dev Cert.KernelIdeal.nD,
      m' ((c.tc : Thread Cert.ReferenceWIdeal.nD Cert.ReferenceWIdeal.τ).loc Cert.ReferenceWIdeal.main_arg0) = m ((c.tc : Thread Cert.KernelIdeal.nD Cert.KernelIdeal.τ).loc Cert.KernelIdeal.main_arg0)
      ∧ m' ((c.tc : Thread Cert.ReferenceWIdeal.nD Cert.ReferenceWIdeal.τ).loc Cert.ReferenceWIdeal.main_arg1) = m ((c.tc : Thread Cert.KernelIdeal.nD Cert.KernelIdeal.τ).loc Cert.KernelIdeal.main_arg1)
      ∧ m' ((c.tc : Thread Cert.ReferenceWIdeal.nD Cert.ReferenceWIdeal.τ).loc Cert.ReferenceWIdeal.main_arg2) = m ((c.tc : Thread Cert.KernelIdeal.nD Cert.KernelIdeal.τ).loc Cert.KernelIdeal.main_arg2)
      ∧ m' ((c.tc : Thread Cert.ReferenceWIdeal.nD Cert.ReferenceWIdeal.τ).loc Cert.ReferenceWIdeal.main_arg3) = m ((c.tc : Thread Cert.KernelIdeal.nD Cert.KernelIdeal.τ).loc Cert.KernelIdeal.main_arg3)
      ∧ m' ((c.tc : Thread Cert.ReferenceWIdeal.nD Cert.ReferenceWIdeal.τ).loc Cert.ReferenceWIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceWIdeal.defs (F := Ideal)) (onTc (τ := Cert.ReferenceWIdeal.τ) (Cert.ReferenceWIdeal.main (F := Ideal))) ⟨m', fun _ => 0, g'⟩ (fun r => ∀ c : Dev Cert.ReferenceWIdeal.nD,
          r.2.mem ((c.tc : Thread Cert.ReferenceWIdeal.nD Cert.ReferenceWIdeal.τ).loc Cert.ReferenceWIdeal.main_v33) = v0 c
          ∧ r.2.mem ((c.tc : Thread Cert.ReferenceWIdeal.nD Cert.ReferenceWIdeal.τ).loc Cert.ReferenceWIdeal.main_arg0) = m' ((c.tc : Thread Cert.ReferenceWIdeal.nD Cert.ReferenceWIdeal.τ).loc Cert.ReferenceWIdeal.main_arg0)
          ∧ r.2.mem ((c.tc : Thread Cert.ReferenceWIdeal.nD Cert.ReferenceWIdeal.τ).loc Cert.ReferenceWIdeal.main_arg1) = m' ((c.tc : Thread Cert.ReferenceWIdeal.nD Cert.ReferenceWIdeal.τ).loc Cert.ReferenceWIdeal.main_arg1)
          ∧ r.2.mem ((c.tc : Thread Cert.ReferenceWIdeal.nD Cert.ReferenceWIdeal.τ).loc Cert.ReferenceWIdeal.main_arg2) = m' ((c.tc : Thread Cert.ReferenceWIdeal.nD Cert.ReferenceWIdeal.τ).loc Cert.ReferenceWIdeal.main_arg2)
          ∧ r.2.mem ((c.tc : Thread Cert.ReferenceWIdeal.nD Cert.ReferenceWIdeal.τ).loc Cert.ReferenceWIdeal.main_arg3) = m' ((c.tc : Thread Cert.ReferenceWIdeal.nD Cert.ReferenceWIdeal.τ).loc Cert.ReferenceWIdeal.main_arg3)
          ∧ r.2.mem ((c.tc : Thread Cert.ReferenceWIdeal.nD Cert.ReferenceWIdeal.τ).loc Cert.ReferenceWIdeal.main_arg4) = m' ((c.tc : Thread Cert.ReferenceWIdeal.nD Cert.ReferenceWIdeal.τ).loc Cert.ReferenceWIdeal.main_arg4))

def holds_KernelIdeal_first_positive_pre_one_edge [hKernelIdeal : Cert.KernelIdeal.Facts] [hPre_one_edge : Cert.Pre_one_edge.Facts] [hPost_first_positive : Cert.Post_first_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_edge m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ (Cert.Post_first_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (r.2.mem ((c.tc : Thread Cert.KernelIdeal.nD Cert.KernelIdeal.τ).loc Cert.KernelIdeal.main_v1))) = (fun _ => 1#1))

def holds_ReferenceIdeal_first_zero_pre_one_edge [hReferenceIdeal : Cert.ReferenceIdeal.Facts] [hPre_one_edge : Cert.Pre_one_edge.Facts] [hPost_first_zero : Cert.Post_first_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_edge m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ (Cert.Post_first_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (r.2.mem ((c.tc : Thread Cert.ReferenceIdeal.nD Cert.ReferenceIdeal.τ).loc Cert.ReferenceIdeal.main_v33))) = (fun _ => 1#1))

def Claim : Prop :=
  ∃ (hKernel : Cert.Kernel.Facts) (hKernelIdeal : Cert.KernelIdeal.Facts) (hReferenceIdeal : Cert.ReferenceIdeal.Facts) (hReferenceWIdeal : Cert.ReferenceWIdeal.Facts) (hPre_proper_symmetric : Cert.Pre_proper_symmetric.Facts) (hPre_proper : Cert.Pre_proper.Facts) (hPre_one_edge : Cert.Pre_one_edge.Facts) (hPost_first_positive : Cert.Post_first_positive.Facts) (hPost_first_zero : Cert.Post_first_zero.Facts),
    quiescent_Kernel (hKernel := hKernel)
    ∧ quiescent_KernelIdeal (hKernelIdeal := hKernelIdeal)
    ∧ quiescent_KernelIdeal_pre_proper_symmetric (hKernelIdeal := hKernelIdeal) (hPre_proper_symmetric := hPre_proper_symmetric)
    ∧ quiescent_KernelIdeal_pre_proper (hKernelIdeal := hKernelIdeal) (hPre_proper := hPre_proper)
    ∧ quiescent_KernelIdeal_pre_one_edge (hKernelIdeal := hKernelIdeal) (hPre_one_edge := hPre_one_edge)
    ∧ quiescent_ReferenceIdeal (hReferenceIdeal := hReferenceIdeal)
    ∧ quiescent_ReferenceIdeal_pre_proper_symmetric (hReferenceIdeal := hReferenceIdeal) (hPre_proper_symmetric := hPre_proper_symmetric)
    ∧ quiescent_ReferenceIdeal_pre_one_edge (hReferenceIdeal := hReferenceIdeal) (hPre_one_edge := hPre_one_edge)
    ∧ quiescent_ReferenceWIdeal (hReferenceWIdeal := hReferenceWIdeal)
    ∧ quiescent_ReferenceWIdeal_pre_proper (hReferenceWIdeal := hReferenceWIdeal) (hPre_proper := hPre_proper)
    ∧ preserves_Kernel_KernelIdeal
    ∧ algebraic_KernelIdeal_ReferenceIdeal_pre_proper_symmetric (hKernelIdeal := hKernelIdeal) (hReferenceIdeal := hReferenceIdeal) (hPre_proper_symmetric := hPre_proper_symmetric)
    ∧ algebraic_KernelIdeal_ReferenceWIdeal_pre_proper (hKernelIdeal := hKernelIdeal) (hReferenceWIdeal := hReferenceWIdeal) (hPre_proper := hPre_proper)
    ∧ holds_KernelIdeal_first_positive_pre_one_edge (hKernelIdeal := hKernelIdeal) (hPre_one_edge := hPre_one_edge) (hPost_first_positive := hPost_first_positive)
    ∧ holds_ReferenceIdeal_first_zero_pre_one_edge (hReferenceIdeal := hReferenceIdeal) (hPre_one_edge := hPre_one_edge) (hPost_first_zero := hPost_first_zero)
-- ==== Post_first_positive.lean ====
abbrev S8x2048x256 : Shape := ⟨3, ![8, 2048, 256]⟩
abbrev S8x2048x2048 : Shape := ⟨3, ![8, 2048, 2048]⟩
abbrev S8x2048x1 : Shape := ⟨3, ![8, 2048, 1]⟩
abbrev S256x256 : Shape := ⟨2, ![256, 256]⟩
abbrev S256 : Shape := ⟨1, ![256]⟩
abbrev S1x1x1 : Shape := ⟨3, ![1, 1, 1]⟩
abbrev S_ : Shape := ⟨0, ![]⟩

class Facts : Prop where
  slices_S8x2048x1_S1x1x1_0_0_0 : S8x2048x1.Slices ![0, 0, 0] S1x1x1
  shapeCasts_S1x1x1_S_ : S1x1x1.ShapeCasts S_

variable [Facts]

def fn {F : FTy → Type} [FloatOps F] (main_arg0 : FVec F S8x2048x256 .f32) (main_arg1 : FVec F S8x2048x2048 .f32) (main_arg2 : FVec F S8x2048x1 .f32) (main_arg3 : FVec F S256x256 .f32) (main_arg4 : FVec F S256 .f32) (main_arg5 : FVec F S8x2048x1 .f32) : IVec S_ 1 :=
  let main_v0 : FVec F S1x1x1 .f32 := (extractStridedSlice S1x1x1 ![0, 0, 0] · slices_S8x2048x1_S1x1x1_0_0_0) main_arg5
  let main_v1 : FVec F S_ .f32 := shapeCast S_ main_v0 shapeCasts_S1x1x1_S_
  let main_cst : FVec F S_ .f32 := constant S_ .f32 0x00000000#32
  let main_v2 : IVec S_ 1 := cmpf .ogt main_v1 main_cst
  main_v2
-- ==== Post_first_zero.lean ====
abbrev S8x2048x256 : Shape := ⟨3, ![8, 2048, 256]⟩
abbrev S8x2048x2048 : Shape := ⟨3, ![8, 2048, 2048]⟩
abbrev S8x2048x1 : Shape := ⟨3, ![8, 2048, 1]⟩
abbrev S256x256 : Shape := ⟨2, ![256, 256]⟩
abbrev S256 : Shape := ⟨1, ![256]⟩
abbrev S1x1x1 : Shape := ⟨3, ![1, 1, 1]⟩
abbrev S_ : Shape := ⟨0, ![]⟩

class Facts : Prop where
  slices_S8x2048x1_S1x1x1_0_0_0 : S8x2048x1.Slices ![0, 0, 0] S1x1x1
  shapeCasts_S1x1x1_S_ : S1x1x1.ShapeCasts S_

variable [Facts]

def fn {F : FTy → Type} [FloatOps F] (main_arg0 : FVec F S8x2048x256 .f32) (main_arg1 : FVec F S8x2048x2048 .f32) (main_arg2 : FVec F S8x2048x1 .f32) (main_arg3 : FVec F S256x256 .f32) (main_arg4 : FVec F S256 .f32) (main_arg5 : FVec F S8x2048x1 .f32) : IVec S_ 1 :=
  let main_v0 : FVec F S1x1x1 .f32 := (extractStridedSlice S1x1x1 ![0, 0, 0] · slices_S8x2048x1_S1x1x1_0_0_0) main_arg5
  let main_v1 : FVec F S_ .f32 := shapeCast S_ main_v0 shapeCasts_S1x1x1_S_
  let main_cst : FVec F S_ .f32 := constant S_ .f32 0x00000000#32
  let main_v2 : IVec S_ 1 := cmpf .oeq main_v1 main_cst
  main_v2
-- ==== Pre_one_edge.lean ====
abbrev S8x2048x256 : Shape := ⟨3, ![8, 2048, 256]⟩
abbrev S8x2048x2048 : Shape := ⟨3, ![8, 2048, 2048]⟩
abbrev S8x2048x1 : Shape := ⟨3, ![8, 2048, 1]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S8x2048x1 : S_.BroadcastsInDim S8x2048x1 (![] : Fin 0 → Fin S8x2048x1.rank)
  reducesTo_S8x2048x1_S_d0_1_2 : S8x2048x1.ReducesTo [0, 1, 2] S_
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn_where {F : FTy → Type} [FloatOps F] (arg0 : IVec S8x2048x256 1) (arg1 : FVec F S_ .f32) (arg2 : FVec F S_ .f32) : FVec F S8x2048x256 .f32 :=
  let v0 : FVec F S8x2048x256 .f32 := broadcastInDim S8x2048x256 ![] bcast_S_S8x2048x256 arg1
  let v1 : FVec F S8x2048x256 .f32 := broadcastInDim S8x2048x256 ![] bcast_S_S8x2048x256 arg2
  let v2 : FVec F S8x2048x256 .f32 := select arg0 v0 v1
  v2

def fn_where_0 {F : FTy → Type} [FloatOps F] (arg0 : IVec S256x256 1) (arg1 : FVec F S_ .f32) (arg2 : FVec F S_ .f32) : FVec F S256x256 .f32 :=
  let v0 : FVec F S256x256 .f32 := broadcastInDim S256x256 ![] bcast_S_S256x256 arg1
  let v1 : FVec F S256x256 .f32 := broadcastInDim S256x256 ![] bcast_S_S256x256 arg2
  let v2 : FVec F S256x256 .f32 := select arg0 v0 v1
  v2

def fn_where_1 {F : FTy → Type} [FloatOps F] (arg0 : IVec S8x2048x2048 1) (arg1 : FVec F S_ .f32) (arg2 : FVec F S_ .f32) : FVec F S8x2048x2048 .f32 :=
  let v0 : FVec F S8x2048x2048 .f32 := broadcastInDim S8x2048x2048 ![] bcast_S_S8x2048x2048 arg1
  let v1 : FVec F S8x2048x2048 .f32 := broadcastInDim S8x2048x2048 ![] bcast_S_S8x2048x2048 arg2
  let v2 : FVec F S8x2048x2048 .f32 := select arg0 v0 v1
  v2

def fn_part2 {F : FTy → Type} [FloatOps F] (main_arg1 : FVec F S8x2048x2048 .f32) (main_arg2 : FVec F S8x2048x1 .f32) (main_v3 : IVec S8x2048x2048 32) (main_v4 : IVec S8x2048x2048 32) (main_v5 : IVec S8x2048x2048 32) (main_v33 : IVec S_ 1) (main_cst_11 : FVec F S_ .f32) : IVec S_ 1 :=
  let main_v34 : FVec F S8x2048x1 .f32 := broadcastInDim S8x2048x1 ![] bcast_S_S8x2048x1 main_cst_11
  let main_v35 : IVec S8x2048x1 1 := cmpf .oeq main_arg2 main_v34
  let main_c_12 : IVec S_ 1 := constantI S_ 1 1#1
  let main_v36 : IVec S_ 1 := (fun x v => Host.reduce IntOp.andi x v reducesTo_S8x2048x1_S_d0_1_2 h_S_) main_v35 main_c_12
  let main_v37 : IVec S_ 1 := andi main_v33 main_v36
  let main_c_13 : IVec S_ 32 := constantI S_ 32 0#32
  let main_v38 : IVec S8x2048x2048 32 := broadcastInDim S8x2048x2048 ![] bcast_S_S8x2048x2048 main_c_13
  let main_v39 : IVec S8x2048x2048 1 := cmpi .eq main_v3 main_v38
  let main_c_14 : IVec S_ 32 := constantI S_ 32 0#32
  let main_v40 : IVec S8x2048x2048 32 := broadcastInDim S8x2048x2048 ![] bcast_S_S8x2048x2048 main_c_14
  let main_v41 : IVec S8x2048x2048 1 := cmpi .eq main_v4 main_v40
  let main_v42 : IVec S8x2048x2048 1 := andi main_v39 main_v41
  let main_c_15 : IVec S_ 32 := constantI S_ 32 1#32
  let main_v43 : IVec S8x2048x2048 32 := broadcastInDim S8x2048x2048 ![] bcast_S_S8x2048x2048 main_c_15
  let main_v44 : IVec S8x2048x2048 1 := cmpi .eq main_v5 main_v43
  let main_v45 : IVec S8x2048x2048 1 := andi main_v42 main_v44
  let main_cst_16 : FVec F S_ .f32 := constant S_ .f32 0x3F800000#32
  let main_cst_17 : FVec F S_ .f32 := constant S_ .f32 0x00000000#32
  let main_v46 : FVec F S8x2048x2048 .f32 := fn_where_1 (F := F) main_v45 main_cst_16 main_cst_17
  let main_v47 : FVec F S8x2048x2048 .f32 := id main_v46
  let main_v48 : IVec S8x2048x2048 1 := cmpf .oeq main_arg1 main_v47
  let main_c_18 : IVec S_ 1 := constantI S_ 1 1#1
  let main_v49 : IVec S_ 1 := (fun x v => Host.reduce IntOp.andi x v reducesTo_S8x2048x2048_S_d0_1_2 h_S_) main_v48 main_c_18
  let main_v50 : IVec S_ 1 := andi main_v37 main_v49
  main_v50

def fn_part1 {F : FTy → Type} [FloatOps F] (main_arg1 : FVec F S8x2048x2048 .f32) (main_arg2 : FVec F S8x2048x1 .f32) (main_arg3 : FVec F S256x256 .f32) (main_arg4 : FVec F S256 .f32) (main_v3 : IVec S8x2048x2048 32) (main_v4 : IVec S8x2048x2048 32) (main_v5 : IVec S8x2048x2048 32) (main_v6 : IVec S256x256 32) (main_v7 : IVec S256x256 32) (main_v18 : IVec S8x2048x256 1) : IVec S_ 1 :=
  let main_c_3 : IVec S_ 1 := constantI S_ 1 1#1
  let main_v19 : IVec S_ 1 := (fun x v => Host.reduce IntOp.andi x v reducesTo_S8x2048x256_S_d0_1_2 h_S_) main_v18 main_c_3
  let main_c_4 : IVec S_ 32 := constantI S_ 32 0#32
  let main_v20 : IVec S256x256 32 := broadcastInDim S256x256 ![] bcast_S_S256x256 main_c_4
  let main_v21 : IVec S256x256 1 := cmpi .eq main_v6 main_v20
  let main_c_5 : IVec S_ 32 := constantI S_ 32 1#32
  let main_v22 : IVec S256x256 32 := broadcastInDim S256x256 ![] bcast_S_S256x256 main_c_5
  let main_v23 : IVec S256x256 1 := cmpi .eq main_v7 main_v22
  let main_v24 : IVec S256x256 1 := andi main_v21 main_v23
  let main_cst_6 : FVec F S_ .f32 := constant S_ .f32 0x3F800000#32
  let main_cst_7 : FVec F S_ .f32 := constant S_ .f32 0x00000000#32
  let main_v25 : FVec F S256x256 .f32 := fn_where_0 (F := F) main_v24 main_cst_6 main_cst_7
  let main_v26 : FVec F S256x256 .f32 := id main_v25
  let main_v27 : IVec S256x256 1 := cmpf .oeq main_arg3 main_v26
  let main_c_8 : IVec S_ 1 := constantI S_ 1 1#1
  let main_v28 : IVec S_ 1 := (fun x v => Host.reduce IntOp.andi x v reducesTo_S256x256_S_d0_1 h_S_) main_v27 main_c_8
  let main_v29 : IVec S_ 1 := andi main_v19 main_v28
  let main_cst_9 : FVec F S_ .f32 := constant S_ .f32 0x00000000#32
  let main_v30 : FVec F S256 .f32 := broadcastInDim S256 ![] bcast_S_S256 main_cst_9
  let main_v31 : IVec S256 1 := cmpf .oeq main_arg4 main_v30
  let main_c_10 : IVec S_ 1 := constantI S_ 1 1#1
  let main_v32 : IVec S_ 1 := (fun x v => Host.reduce IntOp.andi x v reducesTo_S256_S_d0 h_S_) main_v31 main_c_10
  let main_v33 : IVec S_ 1 := andi main_v29 main_v32
  let main_cst_11 : FVec F S_ .f32 := constant S_ .f32 0x3F800000#32
  fn_part2 (F := F) main_arg1 main_arg2 main_v3 main_v4 main_v5 main_v33 main_cst_11

def fn {F : FTy → Type} [FloatOps F] (main_arg0 : FVec F S8x2048x256 .f32) (main_arg1 : FVec F S8x2048x2048 .f32) (main_arg2 : FVec F S8x2048x1 .f32) (main_arg3 : FVec F S256x256 .f32) (main_arg4 : FVec F S256 .f32) : IVec S_ 1 :=
  let main_v0 : IVec S8x2048x256 32 := iotaInDim S8x2048x256 32 0
  let main_v1 : IVec S8x2048x256 32 := iotaInDim S8x2048x256 32 1
  let main_v2 : IVec S8x2048x256 32 := iotaInDim S8x2048x256 32 2
  let main_v3 : IVec S8x2048x2048 32 := iotaInDim S8x2048x2048 32 0
  let main_v4 : IVec S8x2048x2048 32 := iotaInDim S8x2048x2048 32 1
  let main_v5 : IVec S8x2048x2048 32 := iotaInDim S8x2048x2048 32 2
  let main_v6 : IVec S256x256 32 := iotaInDim S256x256 32 0
  let main_v7 : IVec S256x256 32 := iotaInDim S256x256 32 1
  let main_c : IVec S_ 32 := constantI S_ 32 0#32
  let main_v8 : IVec S8x2048x256 32 := broadcastInDim S8x2048x256 ![] bcast_S_S8x2048x256 main_c
  let main_v9 : IVec S8x2048x256 1 := cmpi .eq main_v0 main_v8
  let main_c_0 : IVec S_ 32 := constantI S_ 32 0#32
  let main_v10 : IVec S8x2048x256 32 := broadcastInDim S8x2048x256 ![] bcast_S_S8x2048x256 main_c_0
  let main_v11 : IVec S8x2048x256 1 := cmpi .eq main_v1 main_v10
  let main_v12 : IVec S8x2048x256 1 := andi main_v9 main_v11
  let main_c_1 : IVec S_ 32 := constantI S_ 32 0#32
  let main_v13 : IVec S8x2048x256 32 := broadcastInDim S8x2048x256 ![] bcast_S_S8x2048x256 main_c_1
  let main_v14 : IVec S8x2048x256 1 := cmpi .eq main_v2 main_v13
  let main_v15 : IVec S8x2048x256 1 := andi main_v12 main_v14
  let main_cst : FVec F S_ .f32 := constant S_ .f32 0x3F800000#32
  let main_cst_2 : FVec F S_ .f32 := constant S_ .f32 0x00000000#32
  let main_v16 : FVec F S8x2048x256 .f32 := fn_where (F := F) main_v15 main_cst main_cst_2
  let main_v17 : FVec F S8x2048x256 .f32 := id main_v16
  let main_v18 : IVec S8x2048x256 1 := cmpf .oeq main_arg0 main_v17
  fn_part1 (F := F) main_arg1 main_arg2 main_arg3 main_arg4 main_v3 main_v4 main_v5 main_v6 main_v7 main_v18
-- ==== Pre_proper.lean ====
abbrev S8x2048x256 : Shape := ⟨3, ![8, 2048, 256]⟩
abbrev S8x2048x2048 : Shape := ⟨3, ![8, 2048, 2048]⟩
abbrev S8x2048x1 : Shape := ⟨3, ![8, 2048, 1]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S8x2048x1 : S_.BroadcastsInDim S8x2048x1 (![] : Fin 0 → Fin S8x2048x1.rank)
  reducesTo_S8x2048x1_S_d0_1_2 : S8x2048x1.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8x2048x256 .f32) (main_arg1 : FVec F S8x2048x2048 .f32) (main_arg2 : FVec F S8x2048x1 .f32) (main_arg3 : FVec F S256x256 .f32) (main_arg4 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_cst_2 : FVec F S_ .f32 := constant S_ .f32 0x7F800000#32
  let main_v9 : FVec F S256 .f32 := broadcastInDim S256 ![] bcast_S_S256 main_cst_2
  let main_v10 : IVec S256 1 := cmpf .olt main_arg4 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v8 main_v11
  let main_cst_4 : FVec F S_ .f32 := constant S_ .f32 0x00000000#32
  let main_v13 : FVec F S8x2048x1 .f32 := broadcastInDim S8x2048x1 ![] bcast_S_S8x2048x1 main_cst_4
  let main_v14 : IVec S8x2048x1 1 := cmpf .oge main_arg2 main_v13
  let main_c_5 : IVec S_ 1 := constantI S_ 1 1#1
  let main_v15 : IVec S_ 1 := (fun x v => Host.reduce IntOp.andi x v reducesTo_S8x2048x1_S_d0_1_2 h_S_) main_v14 main_c_5
  fn_part1 (F := F) main_v12 main_v15
-- ==== Pre_proper_symmetric.lean ====
abbrev S8x2048x256 : Shape := ⟨3, ![8, 2048, 256]⟩
abbrev S8x2048x2048 : Shape := ⟨3, ![8, 2048, 2048]⟩
abbrev S8x2048x1 : Shape := ⟨3, ![8, 2048, 1]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S8x2048x1 : S_.BroadcastsInDim S8x2048x1 (![] : Fin 0 → Fin S8x2048x1.rank)
  reducesTo_S8x2048x1_S_d0_1_2 : S8x2048x1.ReducesTo [0, 1, 2] S_
  transposes_S256x256_S256x256_1_0 : S256x256.Transposes [1, 0] S256x256

variable [Facts]

def fn_part1 {F : FTy → Type} [FloatOps F] (main_arg3 : FVec F S256x256 .f32) (main_v12 : IVec S_ 1) (main_v15 : IVec S_ 1) : IVec S_ 1 :=
  let main_v16 : IVec S_ 1 := andi main_v12 main_v15
  let main_v17 : FVec F S256x256 .f32 := (transpose S256x256 [1, 0] · transposes_S256x256_S256x256_1_0) main_arg3
  let main_v18 : IVec S256x256 1 := cmpf .oeq main_arg3 main_v17
  let main_c_6 : IVec S_ 1 := constantI S_ 1 1#1
  let main_v19 : IVec S_ 1 := (fun x v => Host.reduce IntOp.andi x v reducesTo_S256x256_S_d0_1 h_S_) main_v18 main_c_6
  let main_v20 : IVec S_ 1 := andi main_v16 main_v19
  main_v20

def fn {F : FTy → Type} [FloatOps F] (main_arg0 : FVec F S8x2048x256 .f32) (main_arg1 : FVec F S8x2048x2048 .f32) (main_arg2 : FVec F S8x2048x1 .f32) (main_arg3 : FVec F S256x256 .f32) (main_arg4 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_cst_2 : FVec F S_ .f32 := constant S_ .f32 0x7F800000#32
  let main_v9 : FVec F S256 .f32 := broadcastInDim S256 ![] bcast_S_S256 main_cst_2
  let main_v10 : IVec S256 1 := cmpf .olt main_arg4 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v8 main_v11
  let main_cst_4 : FVec F S_ .f32 := constant S_ .f32 0x00000000#32
  let main_v13 : FVec F S8x2048x1 .f32 := broadcastInDim S8x2048x1 ![] bcast_S_S8x2048x1 main_cst_4
  let main_v14 : IVec S8x2048x1 1 := cmpf .oge main_arg2 main_v13
  let main_c_5 : IVec S_ 1 := constantI S_ 1 1#1
  let main_v15 : IVec S_ 1 := (fun x v => Host.reduce IntOp.andi x v reducesTo_S8x2048x1_S_d0_1_2 h_S_) main_v14 main_c_5
  fn_part1 (F := F) main_arg3 main_v12 main_v15
-- ==== Kernel.lean ====
abbrev S8x2048x256 : Shape := ⟨3, ![8, 2048, 256]⟩
abbrev S8x2048x2048 : Shape := ⟨3, ![8, 2048, 2048]⟩
abbrev S8x2048x1 : Shape := ⟨3, ![8, 2048, 1]⟩
abbrev S256x256 : Shape := ⟨2, ![256, 256]⟩
abbrev S256 : Shape := ⟨1, ![256]⟩
abbrev S1x256 : Shape := ⟨2, ![1, 256]⟩
abbrev S8x256x2048 : Shape := ⟨3, ![8, 256, 2048]⟩
abbrev S8x2048x512 : Shape := ⟨3, ![8, 2048, 512]⟩
abbrev S8 : Shape := ⟨1, ![8]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S1x2048x256 : Shape := ⟨3, ![1, 2048, 256]⟩
abbrev S2048x256 : Shape := ⟨2, ![2048, 256]⟩
abbrev S2048 : Shape := ⟨1, ![2048]⟩
abbrev S2048x1 : Shape := ⟨2, ![2048, 1]⟩
abbrev S2048x512 : Shape := ⟨2, ![2048, 512]⟩
abbrev S1x2048x1 : Shape := ⟨3, ![1, 2048, 1]⟩
abbrev S1x2048x512 : Shape := ⟨3, ![1, 2048, 512]⟩
abbrev S1x256x256 : Shape := ⟨3, ![1, 256, 256]⟩
abbrev S1x256x1 : Shape := ⟨3, ![1, 256, 1]⟩
abbrev S256x1 : Shape := ⟨2, ![256, 1]⟩
abbrev S256x512 : Shape := ⟨2, ![256, 512]⟩

abbrev nBuf : Space → Nat
  | .hbm => 7
  | .vmem => 8
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S8x2048x1, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S8x2048x1, .f32⟩
  | .local _ .vmem, ⟨0, _⟩ => ⟨S8x2048x256, .f32⟩
  | .local _ .vmem, ⟨1, _⟩ => ⟨S256x256, .f32⟩
  | .local _ .vmem, ⟨2, _⟩ => ⟨S1x256, .f32⟩
  | .local _ .vmem, ⟨3, _⟩ => ⟨S8x2048x1, .f32⟩
  | .local _ .vmem, ⟨4, _⟩ => ⟨S8x2048x1, .f32⟩
  | .local _ .vmem, ⟨5, _⟩ => ⟨S8x256x2048, .f32⟩
  | .local _ .vmem, ⟨6, _⟩ => ⟨S8x2048x256, .f32⟩
  | .local _ .vmem, ⟨7, _⟩ => ⟨S8x2048x512, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 (c0_i32 : BitVec 32) : Fin 1 → Nat :=
  let c8_i32 : BitVec 32 := 8#32
  let v0 : BitVec 32 := Scalar.remsi c0_i32 c8_i32
  ![v0.toNat]
def k0_off2 (c0_i32 : BitVec 32) : Fin 3 → Nat :=
  let c8_i32 : BitVec 32 := 8#32
  let v0 : BitVec 32 := Scalar.remsi c0_i32 c8_i32
  let c0_i32_1 : BitVec 32 := 0#32
  let c0_i32_2 : BitVec 32 := 0#32
  ![v0.toNat, 0, 0]
@[reducible] def k0_t1_loop : Scf.Loop 32 :=
  let c0_i32_215 : BitVec 32 := 0#32
  let c64_i32 : BitVec 32 := 64#32
  let v344 : BitVec 32 := Scalar.addi c0_i32_215 c64_i32
  let c1_i32_216 : BitVec 32 := 1#32
  ⟨c0_i32_215, v344, c1_i32_216⟩
def k0_off3 (k0_t1 : Fin k0_t1_loop.trips) : Fin 1 → Nat :=
  let c0_i32_215 : BitVec 32 := 0#32
  let c1_i32_216 : BitVec 32 := 1#32
  let arg10 : BitVec 32 := Scf.iv c0_i32_215 c1_i32_216 k0_t1
  let c8_i32_232 : BitVec 32 := 8#32
  let v373 : BitVec 32 := Scalar.remsi arg10 c8_i32_232
  ![v373.toNat]
def k0_off4 (k0_t1 : Fin k0_t1_loop.trips) : Fin 3 → Nat :=
  let c0_i32_215 : BitVec 32 := 0#32
  let c1_i32_216 : BitVec 32 := 1#32
  let arg10 : BitVec 32 := Scf.iv c0_i32_215 c1_i32_216 k0_t1
  let c8_i32_232 : BitVec 32 := 8#32
  let v373 : BitVec 32 := Scalar.remsi arg10 c8_i32_232
  let c0_i32_233 : BitVec 32 := 0#32
  let c0_i32_234 : BitVec 32 := 0#32
  ![v373.toNat, 0, 0]
def k0_off5 (k0_t1 : Fin k0_t1_loop.trips) : Fin 3 → Nat :=
  let c0_i32_215 : BitVec 32 := 0#32
  let c1_i32_216 : BitVec 32 := 1#32
  let arg10 : BitVec 32 := Scf.iv c0_i32_215 c1_i32_216 k0_t1
  let c0_i32_219 : BitVec 32 := 0#32
  let v346 : BitVec 1 := Scalar.cmpi .sgt arg10 c0_i32_219
  let v347 : BitVec 32 := Scalar.extui v346
  let c0_i32_220 : BitVec 32 := 0#32
  let v348 : BitVec 1 := Scalar.cmpi .slt arg10 c0_i32_220
  let v349 : BitVec 32 := Scalar.extui v348
  let v350 : BitVec 32 := Scalar.subi v347 v349
  let c8_i32_218 : BitVec 32 := 8#32
  let c0_i32_221 : BitVec 32 := 0#32
  let v351 : BitVec 1 := Scalar.cmpi .sgt c8_i32_218 c0_i32_221
  let v352 : BitVec 32 := Scalar.extui v351
  let c0_i32_222 : BitVec 32 := 0#32
  let v353 : BitVec 1 := Scalar.cmpi .slt c8_i32_218 c0_i32_222
  let v354 : BitVec 32 := Scalar.extui v353
  let v355 : BitVec 32 := Scalar.subi v352 v354
  let v356 : BitVec 1 := Scalar.cmpi .ne v350 v355
  let v357 : BitVec 32 := Scalar.remsi arg10 c8_i32_218
  let c0_i32_223 : BitVec 32 := 0#32
  let v358 : BitVec 1 := Scalar.cmpi .ne v357 c0_i32_223
  let v359 : BitVec 1 := Scalar.andi v356 v358
  let v345 : BitVec 32 := Scalar.divsi arg10 c8_i32_218
  let c1_i32_224 : BitVec 32 := 1#32
  let v360 : BitVec 32 := Scalar.subi v345 c1_i32_224
  let v361 : BitVec 32 := Scalar.select v359 v360 v345
  let c8_i32_225 : BitVec 32 := 8#32
  let c0_i32_226 : BitVec 32 := 0#32
  let v362 : BitVec 1 := Scalar.cmpi .eq c8_i32_225 c0_i32_226
  let c1_i32_227 : BitVec 32 := 1#32
  let v363 : BitVec 32 := Scalar.select v362 c1_i32_227 c8_i32_225
  let v364 : BitVec 32 := Scalar.remsi arg10 v363
  let c0_i32_229 : BitVec 32 := 0#32
  let v366 : BitVec 1 := Scalar.cmpi .slt v364 c0_i32_229
  let c0_i32_230 : BitVec 32 := 0#32
  let v367 : BitVec 1 := Scalar.cmpi .slt v363 c0_i32_230
  let v368 : BitVec 1 := Scalar.xori v366 v367
  let c0_i32_228 : BitVec 32 := 0#32
  let v365 : BitVec 1 := Scalar.cmpi .ne v364 c0_i32_228
  let v369 : BitVec 1 := Scalar.andi v368 v365
  let v370 : BitVec 32 := Scalar.addi v364 v363
  let v371 : BitVec 32 := Scalar.select v369 v370 v364
  let c256_i32_231 : BitVec 32 := 256#32
  let v372 : BitVec 32 := Scalar.muli v371 c256_i32_231
  let c0_i32_235 : BitVec 32 := 0#32
  ![v361.toNat, v372.toNat, 0]
def k0_off6 (k0_t1 : Fin k0_t1_loop.trips) : Fin 3 → Nat :=
  let c0_i32_215 : BitVec 32 := 0#32
  let c1_i32_216 : BitVec 32 := 1#32
  let arg10 : BitVec 32 := Scf.iv c0_i32_215 c1_i32_216 k0_t1
  let c0_i32_219 : BitVec 32 := 0#32
  let v346 : BitVec 1 := Scalar.cmpi .sgt arg10 c0_i32_219
  let v347 : BitVec 32 := Scalar.extui v346
  let c0_i32_220 : BitVec 32 := 0#32
  let v348 : BitVec 1 := Scalar.cmpi .slt arg10 c0_i32_220
  let v349 : BitVec 32 := Scalar.extui v348
  let v350 : BitVec 32 := Scalar.subi v347 v349
  let c8_i32_218 : BitVec 32 := 8#32
  let c0_i32_221 : BitVec 32 := 0#32
  let v351 : BitVec 1 := Scalar.cmpi .sgt c8_i32_218 c0_i32_221
  let v352 : BitVec 32 := Scalar.extui v351
  let c0_i32_222 : BitVec 32 := 0#32
  let v353 : BitVec 1 := Scalar.cmpi .slt c8_i32_218 c0_i32_222
  let v354 : BitVec 32 := Scalar.extui v353
  let v355 : BitVec 32 := Scalar.subi v352 v354
  let v356 : BitVec 1 := Scalar.cmpi .ne v350 v355
  let v357 : BitVec 32 := Scalar.remsi arg10 c8_i32_218
  let c0_i32_223 : BitVec 32 := 0#32
  let v358 : BitVec 1 := Scalar.cmpi .ne v357 c0_i32_223
  let v359 : BitVec 1 := Scalar.andi v356 v358
  let v345 : BitVec 32 := Scalar.divsi arg10 c8_i32_218
  let c1_i32_224 : BitVec 32 := 1#32
  let v360 : BitVec 32 := Scalar.subi v345 c1_i32_224
  let v361 : BitVec 32 := Scalar.select v359 v360 v345
  let v380 : Index := Scalar.indexCast v361
  let c8_i32_225 : BitVec 32 := 8#32
  let c0_i32_226 : BitVec 32 := 0#32
  let v362 : BitVec 1 := Scalar.cmpi .eq c8_i32_225 c0_i32_226
  let c1_i32_227 : BitVec 32 := 1#32
  let v363 : BitVec 32 := Scalar.select v362 c1_i32_227 c8_i32_225
  let v364 : BitVec 32 := Scalar.remsi arg10 v363
  let c0_i32_229 : BitVec 32 := 0#32
  let v366 : BitVec 1 := Scalar.cmpi .slt v364 c0_i32_229
  let c0_i32_230 : BitVec 32 := 0#32
  let v367 : BitVec 1 := Scalar.cmpi .slt v363 c0_i32_230
  let v368 : BitVec 1 := Scalar.xori v366 v367
  let c0_i32_228 : BitVec 32 := 0#32
  let v365 : BitVec 1 := Scalar.cmpi .ne v364 c0_i32_228
  let v369 : BitVec 1 := Scalar.andi v368 v365
  let v370 : BitVec 32 := Scalar.addi v364 v363
  let v371 : BitVec 32 := Scalar.select v369 v370 v364
  let c256_i32_231 : BitVec 32 := 256#32
  let v372 : BitVec 32 := Scalar.muli v371 c256_i32_231
  let v381 : Index := Scalar.indexCast v372
  let c0_236 : Index := 0#32
  ![v380.toNat, v381.toNat, 0]
def k0_off7 (k0_t1 : Fin k0_t1_loop.trips) : Fin 3 → Nat :=
  let c0_i32_215 : BitVec 32 := 0#32
  let c1_i32_216 : BitVec 32 := 1#32
  let arg10 : BitVec 32 := Scf.iv c0_i32_215 c1_i32_216 k0_t1
  let c0_i32_219 : BitVec 32 := 0#32
  let v346 : BitVec 1 := Scalar.cmpi .sgt arg10 c0_i32_219
  let v347 : BitVec 32 := Scalar.extui v346
  let c0_i32_220 : BitVec 32 := 0#32
  let v348 : BitVec 1 := Scalar.cmpi .slt arg10 c0_i32_220
  let v349 : BitVec 32 := Scalar.extui v348
  let v350 : BitVec 32 := Scalar.subi v347 v349
  let c8_i32_218 : BitVec 32 := 8#32
  let c0_i32_221 : BitVec 32 := 0#32
  let v351 : BitVec 1 := Scalar.cmpi .sgt c8_i32_218 c0_i32_221
  let v352 : BitVec 32 := Scalar.extui v351
  let c0_i32_222 : BitVec 32 := 0#32
  let v353 : BitVec 1 := Scalar.cmpi .slt c8_i32_218 c0_i32_222
  let v354 : BitVec 32 := Scalar.extui v353
  let v355 : BitVec 32 := Scalar.subi v352 v354
  let v356 : BitVec 1 := Scalar.cmpi .ne v350 v355
  let v357 : BitVec 32 := Scalar.remsi arg10 c8_i32_218
  let c0_i32_223 : BitVec 32 := 0#32
  let v358 : BitVec 1 := Scalar.cmpi .ne v357 c0_i32_223
  let v359 : BitVec 1 := Scalar.andi v356 v358
  let v345 : BitVec 32 := Scalar.divsi arg10 c8_i32_218
  let c1_i32_224 : BitVec 32 := 1#32
  let v360 : BitVec 32 := Scalar.subi v345 c1_i32_224
  let v361 : BitVec 32 := Scalar.select v359 v360 v345
  let v384 : Index := Scalar.indexCast v361
  let c8_i32_225 : BitVec 32 := 8#32
  let c0_i32_226 : BitVec 32 := 0#32
  let v362 : BitVec 1 := Scalar.cmpi .eq c8_i32_225 c0_i32_226
  let c1_i32_227 : BitVec 32 := 1#32
  let v363 : BitVec 32 := Scalar.select v362 c1_i32_227 c8_i32_225
  let v364 : BitVec 32 := Scalar.remsi arg10 v363
  let c0_i32_229 : BitVec 32 := 0#32
  let v366 : BitVec 1 := Scalar.cmpi .slt v364 c0_i32_229
  let c0_i32_230 : BitVec 32 := 0#32
  let v367 : BitVec 1 := Scalar.cmpi .slt v363 c0_i32_230
  let v368 : BitVec 1 := Scalar.xori v366 v367
  let c0_i32_228 : BitVec 32 := 0#32
  let v365 : BitVec 1 := Scalar.cmpi .ne v364 c0_i32_228
  let v369 : BitVec 1 := Scalar.andi v368 v365
  let v370 : BitVec 32 := Scalar.addi v364 v363
  let v371 : BitVec 32 := Scalar.select v369 v370 v364
  let c256_i32_231 : BitVec 32 := 256#32
  let v372 : BitVec 32 := Scalar.muli v371 c256_i32_231
  let v385 : Index := Scalar.indexCast v372
  let c0_237 : Index := 0#32
  ![v384.toNat, v385.toNat, 0]
def k0_off8 (k0_t1 : Fin k0_t1_loop.trips) : Fin 3 → Nat :=
  let c0_i32_215 : BitVec 32 := 0#32
  let c1_i32_216 : BitVec 32 := 1#32
  let arg10 : BitVec 32 := Scf.iv c0_i32_215 c1_i32_216 k0_t1
  let c8_i32_232 : BitVec 32 := 8#32
  let v373 : BitVec 32 := Scalar.remsi arg10 c8_i32_232
  let v388 : Index := Scalar.indexCast v373
  let c0_238 : Index := 0#32
  let c0_239 : Index := 0#32
  ![v388.toNat, 0, 0]
def k0_off9 (k0_t1 : Fin k0_t1_loop.trips) : Fin 3 → Nat :=
  let c0_i32_215 : BitVec 32 := 0#32
  let c1_i32_216 : BitVec 32 := 1#32
  let arg10 : BitVec 32 := Scf.iv c0_i32_215 c1_i32_216 k0_t1
  let c0_i32_219 : BitVec 32 := 0#32
  let v346 : BitVec 1 := Scalar.cmpi .sgt arg10 c0_i32_219
  let v347 : BitVec 32 := Scalar.extui v346
  let c0_i32_220 : BitVec 32 := 0#32
  let v348 : BitVec 1 := Scalar.cmpi .slt arg10 c0_i32_220
  let v349 : BitVec 32 := Scalar.extui v348
  let v350 : BitVec 32 := Scalar.subi v347 v349
  let c8_i32_218 : BitVec 32 := 8#32
  let c0_i32_221 : BitVec 32 := 0#32
  let v351 : BitVec 1 := Scalar.cmpi .sgt c8_i32_218 c0_i32_221
  let v352 : BitVec 32 := Scalar.extui v351
  let c0_i32_222 : BitVec 32 := 0#32
  let v353 : BitVec 1 := Scalar.cmpi .slt c8_i32_218 c0_i32_222
  let v354 : BitVec 32 := Scalar.extui v353
  let v355 : BitVec 32 := Scalar.subi v352 v354
  let v356 : BitVec 1 := Scalar.cmpi .ne v350 v355
  let v357 : BitVec 32 := Scalar.remsi arg10 c8_i32_218
  let c0_i32_223 : BitVec 32 := 0#32
  let v358 : BitVec 1 := Scalar.cmpi .ne v357 c0_i32_223
  let v359 : BitVec 1 := Scalar.andi v356 v358
  let v345 : BitVec 32 := Scalar.divsi arg10 c8_i32_218
  let c1_i32_224 : BitVec 32 := 1#32
  let v360 : BitVec 32 := Scalar.subi v345 c1_i32_224
  let v361 : BitVec 32 := Scalar.select v359 v360 v345
  let v391 : Index := Scalar.indexCast v361
  let c0_240 : Index := 0#32
  let c0_241 : Index := 0#32
  ![v391.toNat, 0, 0]
def k0_cond1 (k0_t1 : Fin k0_t1_loop.trips) : BitVec 1 :=
  let c0_i32_215 : BitVec 32 := 0#32
  let c1_i32_216 : BitVec 32 := 1#32
  let arg10 : BitVec 32 := Scf.iv c0_i32_215 c1_i32_216 k0_t1
  let c8_i32_251 : BitVec 32 := 8#32
  let v426 : BitVec 32 := Scalar.addi arg10 c8_i32_251
  let c64_i32_252 : BitVec 32 := 64#32
  let v427 : BitVec 1 := Scalar.cmpi .slt v426 c64_i32_252
  let v428 : BitVec 32 := Scalar.extui v427
  let c0_i32_253 : BitVec 32 := 0#32
  let v429 : BitVec 1 := Scalar.cmpi .ne v428 c0_i32_253
  v429

def k0_off10 (k0_t1 : Fin k0_t1_loop.trips) : Fin 1 → Nat :=
  let c0_i32_215 : BitVec 32 := 0#32
  let c1_i32_216 : BitVec 32 := 1#32
  let arg10 : BitVec 32 := Scf.iv c0_i32_215 c1_i32_216 k0_t1
  let c8_i32_254 : BitVec 32 := 8#32
  let v430 : BitVec 32 := Scalar.addi arg10 c8_i32_254
  let c8_i32_269 : BitVec 32 := 8#32
  let v459 : BitVec 32 := Scalar.remsi v430 c8_i32_269
  ![v459.toNat]
def k0_off11 (k0_t1 : Fin k0_t1_loop.trips) : Fin 3 → Nat :=
  let c0_i32_215 : BitVec 32 := 0#32
  let c1_i32_216 : BitVec 32 := 1#32
  let arg10 : BitVec 32 := Scf.iv c0_i32_215 c1_i32_216 k0_t1
  let c8_i32_254 : BitVec 32 := 8#32
  let v430 : BitVec 32 := Scalar.addi arg10 c8_i32_254
  let c8_i32_269 : BitVec 32 := 8#32
  let v459 : BitVec 32 := Scalar.remsi v430 c8_i32_269
  let c0_i32_270 : BitVec 32 := 0#32
  let c0_i32_271 : BitVec 32 := 0#32
  ![v459.toNat, 0, 0]
def k0_off12 (k0_t1 : Fin k0_t1_loop.trips) : Fin 3 → Nat :=
  let c0_i32_215 : BitVec 32 := 0#32
  let c1_i32_216 : BitVec 32 := 1#32
  let arg10 : BitVec 32 := Scf.iv c0_i32_215 c1_i32_216 k0_t1
  let c8_i32_254 : BitVec 32 := 8#32
  let v430 : BitVec 32 := Scalar.addi arg10 c8_i32_254
  let c0_i32_256 : BitVec 32 := 0#32
  let v432 : BitVec 1 := Scalar.cmpi .sgt v430 c0_i32_256
  let v433 : BitVec 32 := Scalar.extui v432
  let c0_i32_257 : BitVec 32 := 0#32
  let v434 : BitVec 1 := Scalar.cmpi .slt v430 c0_i32_257
  let v435 : BitVec 32 := Scalar.extui v434
  let v436 : BitVec 32 := Scalar.subi v433 v435
  let c8_i32_255 : BitVec 32 := 8#32
  let c0_i32_258 : BitVec 32 := 0#32
  let v437 : BitVec 1 := Scalar.cmpi .sgt c8_i32_255 c0_i32_258
  let v438 : BitVec 32 := Scalar.extui v437
  let c0_i32_259 : BitVec 32 := 0#32
  let v439 : BitVec 1 := Scalar.cmpi .slt c8_i32_255 c0_i32_259
  let v440 : BitVec 32 := Scalar.extui v439
  let v441 : BitVec 32 := Scalar.subi v438 v440
  let v442 : BitVec 1 := Scalar.cmpi .ne v436 v441
  let v443 : BitVec 32 := Scalar.remsi v430 c8_i32_255
  let c0_i32_260 : BitVec 32 := 0#32
  let v444 : BitVec 1 := Scalar.cmpi .ne v443 c0_i32_260
  let v445 : BitVec 1 := Scalar.andi v442 v444
  let v431 : BitVec 32 := Scalar.divsi v430 c8_i32_255
  let c1_i32_261 : BitVec 32 := 1#32
  let v446 : BitVec 32 := Scalar.subi v431 c1_i32_261
  let v447 : BitVec 32 := Scalar.select v445 v446 v431
  let c8_i32_262 : BitVec 32 := 8#32
  let c0_i32_263 : BitVec 32 := 0#32
  let v448 : BitVec 1 := Scalar.cmpi .eq c8_i32_262 c0_i32_263
  let c1_i32_264 : BitVec 32 := 1#32
  let v449 : BitVec 32 := Scalar.select v448 c1_i32_264 c8_i32_262
  let v450 : BitVec 32 := Scalar.remsi v430 v449
  let c0_i32_266 : BitVec 32 := 0#32
  let v452 : BitVec 1 := Scalar.cmpi .slt v450 c0_i32_266
  let c0_i32_267 : BitVec 32 := 0#32
  let v453 : BitVec 1 := Scalar.cmpi .slt v449 c0_i32_267
  let v454 : BitVec 1 := Scalar.xori v452 v453
  let c0_i32_265 : BitVec 32 := 0#32
  let v451 : BitVec 1 := Scalar.cmpi .ne v450 c0_i32_265
  let v455 : BitVec 1 := Scalar.andi v454 v451
  let v456 : BitVec 32 := Scalar.addi v450 v449
  let v457 : BitVec 32 := Scalar.select v455 v456 v450
  let c256_i32_268 : BitVec 32 := 256#32
  let v458 : BitVec 32 := Scalar.muli v457 c256_i32_268
  let c0_i32_272 : BitVec 32 := 0#32
  ![v447.toNat, v458.toNat, 0]
abbrev stage0_0 : Fin 1 → Memref sig .tc .vmem S8x2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8x2048x256 : Shape := ⟨3, ![8, 2048, 256]⟩
abbrev S8x2048x2048 : Shape := ⟨3, ![8, 2048, 2048]⟩
abbrev S8x2048x1 : Shape := ⟨3, ![8, 2048, 1]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S8x2048 : Shape := ⟨2, ![8, 2048]⟩
abbrev S8x1x2048 : Shape := ⟨3, ![8, 1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S8x2048x1, .f32⟩
  | .hbm, ⟨3, _⟩ => ⟨S256x256, .f32⟩
  | .hbm, ⟨4, _⟩ => ⟨S256, .f32⟩
  | .hbm, ⟨5, _⟩ => ⟨S8x2048x256, .f32⟩
  | .hbm, ⟨6, _⟩ => ⟨S1x1x256, .f32⟩
  | .hbm, ⟨7, _⟩ => ⟨S8x2048x256, .f32⟩
  | .hbm, ⟨8, _⟩ => ⟨S8x2048x256, .f32⟩
  | .hbm, ⟨9, _⟩ => ⟨S_, .f32⟩
  | .hbm, ⟨10, _⟩ => ⟨S8x2048x256, .f32⟩
  | .hbm, ⟨11, _⟩ => ⟨S8x2048x256, .f32⟩
  | .hbm, ⟨12, _⟩ => ⟨S8x2048, .f32⟩
  | .hbm, ⟨13, _⟩ => ⟨S_, .f32⟩
  | .hbm, ⟨14, _⟩ => ⟨S8x2048x2048, .f32⟩
  | .hbm, ⟨15, _⟩ => ⟨S8x2048x2048, .i1⟩
  | .hbm, ⟨16, _⟩ => ⟨S8x2048x2048, .f32⟩
  | .hbm, ⟨17, _⟩ => ⟨S8x2048x1, .f32⟩
  | .hbm, ⟨18, _⟩ => ⟨S8x1x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x256, .f32⟩
  | .hbm, ⟨24, _⟩ => ⟨S_, .f32⟩
  | .hbm, ⟨25, _⟩ => ⟨S8x2048, .f32⟩
  | .hbm, ⟨26, _⟩ => ⟨S8x2048x256, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048, .f32⟩
  | .hbm, ⟨32, _⟩ => ⟨S8x2048x256, .f32⟩
  | .hbm, ⟨33, _⟩ => ⟨S_, .f32⟩
  | .hbm, ⟨34, _⟩ => ⟨S8x2048, .f32⟩
  | .hbm, ⟨35, _⟩ => ⟨S_, .f32⟩
  | .hbm, ⟨36, _⟩ => ⟨S8x2048, .f32⟩
  | .hbm, ⟨37, _⟩ => ⟨S8x2048, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S8x2048, .f32⟩
  | .hbm, ⟨46, _⟩ => ⟨S8x2048, .f32⟩
  | .hbm, ⟨47, _⟩ => ⟨S8x2048x1, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== ReferenceWIdeal.lean ====
abbrev S8x2048x256 : Shape := ⟨3, ![8, 2048, 256]⟩
abbrev S8x2048x2048 : Shape := ⟨3, ![8, 2048, 2048]⟩
abbrev S8x2048x1 : Shape := ⟨3, ![8, 2048, 1]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S8x2048 : Shape := ⟨2, ![8, 2048]⟩
abbrev S8x1x2048 : Shape := ⟨3, ![8, 1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S8x2048x1, .f32⟩
  | .hbm, ⟨3, _⟩ => ⟨S256x256, .f32⟩
  | .hbm, ⟨4, _⟩ => ⟨S256, .f32⟩
  | .hbm, ⟨5, _⟩ => ⟨S8x2048x256, .f32⟩
  | .hbm, ⟨6, _⟩ => ⟨S1x1x256, .f32⟩
  | .hbm, ⟨7, _⟩ => ⟨S8x2048x256, .f32⟩
  | .hbm, ⟨8, _⟩ => ⟨S8x2048x256, .f32⟩
  | .hbm, ⟨9, _⟩ => ⟨S_, .f32⟩
  | .hbm, ⟨10, _⟩ => ⟨S8x2048x256, .f32⟩
  | .hbm, ⟨11, _⟩ => ⟨S8x2048x256, .f32⟩
  | .hbm, ⟨12, _⟩ => ⟨S8x2048, .f32⟩
  | .hbm, ⟨13, _⟩ => ⟨S_, .f32⟩
  | .hbm, ⟨14, _⟩ => ⟨S8x2048x2048, .f32⟩
  | .hbm, ⟨15, _⟩ => ⟨S8x2048x2048, .i1⟩
  | .hbm, ⟨16, _⟩ => ⟨S8x2048x2048, .f32⟩
  | .hbm, ⟨17, _⟩ => ⟨S8x2048x1, .f32⟩
  | .hbm, ⟨18, _⟩ => ⟨S8x1x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x256, .f32⟩
  | .hbm, ⟨24, _⟩ => ⟨S_, .f32⟩
  | .hbm, ⟨25, _⟩ => ⟨S8x2048, .f32⟩
  | .hbm, ⟨26, _⟩ => ⟨S8x2048x256, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048, .f32⟩
  | .hbm, ⟨32, _⟩ => ⟨S8x2048x256, .f32⟩
  | .hbm, ⟨33, _⟩ => ⟨S_, .f32⟩
  | .hbm, ⟨34, _⟩ => ⟨S8x2048, .f32⟩
  | .hbm, ⟨35, _⟩ => ⟨S_, .f32⟩
  | .hbm, ⟨36, _⟩ => ⟨S8x2048, .f32⟩
  | .hbm, ⟨37, _⟩ => ⟨S8x2048, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S8x2048, .f32⟩
  | .hbm, ⟨46, _⟩ => ⟨S8x2048, .f32⟩
  | .hbm, ⟨47, _⟩ => ⟨S8x2048x1, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Proof.Names.lean ====
/-
  The names the ring proof speaks in. `support` is cut into 64 tiles of 256 rows (tile `b` is rows
  `(b % 8) * 256 …` of batch `b / 8`); the kernel streams them through a ring of eight slots, tile `b` through
  slot `b % 8`, each slot with a DMA cell of its own. This module names the tiles, the slots and the cells, puts
  the offsets that the program computes from the trip number in closed form, and equates the slices that the
  program takes with those names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Tau

open Cert.KernelIdeal Cert.KernelIdeal.Gen
open Idealize.ShloMosaic Idealize.ShloMosaic.TcCoe Idealize.ShloMosaic.Tactic

/-- The trips of the streaming loop. -/
abbrev Trip : Type := Fin k0_t1_loop.trips

/-- There are 64 of them. -/
theorem trips_eq : k0_t1_loop.trips = 64 := by decide +kernel
theorem trip_lt (k : Trip) : k.val < 64 := Nat.lt_of_lt_of_eq k.isLt trips_eq

/-- `support` in HBM, and the eight-slot buffer in VMEM. -/
abbrev supM : Memref sig .tc .hbm S8x2048x2048 .f32 := Memref.whole main_arg1
abbrev ringM : Memref sig .tc .vmem S8x256x2048 .f32 := Memref.whole cc0_scratch0

/-! ## Offsets -/

/-- Where tile `b` starts in `support`. -/
abbrev tileOff (b : Fin 64) : Fin 3 → Nat := ![b.val / 8, b.val % 8 * 256, 0]
theorem tileOff_inb (b : Fin 64) : ∀ a, tileOff b a + S1x256x2048.size a ≤ S8x2048x2048.size a := by
  have hb := b.isLt
  intro a
  fin_cases a
  · show b.val / 8 + 1 ≤ 8; omega
  · show b.val % 8 * 256 + 256 ≤ 2048; omega
  · show 0 + 2048 ≤ 2048; omega
/-- Where slot `s` starts in the buffer. -/
abbrev slotOff (s : Fin 8) : Fin 3 → Nat := ![s.val, 0, 0]
theorem slotOff_inb (s : Fin 8) : ∀ a, slotOff s a + S1x256x2048.size a ≤ S8x256x2048.size a := by
  have hs := s.isLt
  intro a
  fin_cases a
  · show s.val + 1 ≤ 8; omega
  · show 0 + 256 ≤ 256; omega
  · show 0 + 2048 ≤ 2048; omega
/-- Where slot `s`'s cell lies among the eight. -/
abbrev cellOff (s : Fin 8) : Fin 1 → Nat := ![s.val]
theorem cellOff_inb (s : Fin 8) : ∀ a, cellOff s a + S1.size a ≤ S8.size a := by
  have hs := s.isLt
  intro a
  fin_cases a
  show s.val + 1 ≤ 8; omega

/-! ## The names -/

/-- Tile `b` of `support`, sliced and squeezed as the kernel does it. -/
def tile (b : Fin 64) : Memref sig .tc .hbm S256x2048 .f32 :=
  (supM.slice (Rect.unit (s := S8x2048x2048) (tileOff b) S1x256x2048.size (tileOff_inb b)) (fun _ => rfl)).squeeze S256x2048 squeezes_S1x256x2048_S256x2048
/-- Slot `s` of the buffer. -/
def slot (s : Fin 8) : Memref sig .tc .vmem S256x2048 .f32 :=
  (ringM.slice (Rect.unit (s := S8x256x2048) (slotOff s) S1x256x2048.size (slotOff_inb s)) (fun _ => rfl)).squeeze S256x2048 squeezes_S1x256x2048_S256x2048
/-- Slot `s`'s DMA cell. -/
def cell (s : Fin 8) : DmaSems sig S_ :=
  (cc0_scratch3.slice (Rect.unit (s := S8) (cellOff s) S1.size (cellOff_inb s))).squeeze S_ squeezes_S1_S_

instance (b : Fin 64) : ClosedOff (tileOff b) := ⟨tileOff b, rfl⟩
instance (s : Fin 8) : ClosedOff (slotOff s) := ⟨slotOff s, rfl⟩

/-! ## The program's offsets in closed form, decided at the 64 trips -/

theorem off3_eq : ∀ k : Trip, k0_off3 k = cellOff (Ring.sl 8 k.val) := by decide +kernel
theorem off4_eq : ∀ k : Trip, k0_off4 k = slotOff (Ring.sl 8 k.val) := by decide +kernel
theorem off5_eq : ∀ k : Trip, k0_off5 k = tileOff (Ring.bk 64 k.val) := by decide +kernel
/-- The rows that trip `k` computes. -/
abbrev rowOff (k : Trip) : Fin 3 → Nat := ![k.val / 8, k.val % 8 * 256, 0]
theorem off6_eq : ∀ k : Trip, k0_off6 k = rowOff k := by decide +kernel
theorem off7_eq : ∀ k : Trip, k0_off7 k = rowOff k := by decide +kernel
theorem off8_eq : ∀ k : Trip, k0_off8 k = slotOff (Ring.sl 8 k.val) := by decide +kernel
theorem off9_eq : ∀ k : Trip, k0_off9 k = ![k.val / 8, 0, 0] := by decide +kernel
theorem cond1_eq : ∀ k : Trip, k0_cond1 k = 1#1 ↔ k.val + 8 < 64 := by decide +kernel
theorem off10_eq : ∀ k : Trip, k0_off10 k = cellOff (Ring.sl 8 k.val) := by decide +kernel
theorem off11_eq : ∀ k : Trip, k0_off11 k = slotOff (Ring.sl 8 k.val) := by decide +kernel
theorem off12_eq : ∀ k : Trip, k.val + 8 < 64 → k0_off12 k = tileOff (Ring.bk 64 (k.val + 8)) := by decide +kernel

instance (k : Trip) : ClosedOff (k0_off6 k) := ⟨rowOff k, off6_eq k⟩
instance (k : Trip) : ClosedOff (k0_off7 k) := ⟨rowOff k, off7_eq k⟩
instance (k : Trip) : ClosedOff (k0_off8 k) := ⟨slotOff (Ring.sl 8 k.val), off8_eq k⟩
instance (k : Trip) : ClosedOff (k0_off9 k) := ⟨![k.val / 8, 0, 0], off9_eq k⟩

/-! ## The program's slices under these names -/

theorem cell_of {off : Fin 1 → Nat} {s : Fin 8} (e : off = cellOff s) (h) :
    (cc0_scratch3.slice (Rect.unit (s := S8) off S1.size h)).squeeze S_ squeezes_S1_S_ = cell s :=
  congrArg (fun A : DmaSems sig S1 => A.squeeze S_ squeezes_S1_S_) (SemArray.slice_unit_congr _ e _ _)
theorem slot_of {off : Fin 3 → Nat} {s : Fin 8} (e : off = slotOff s) (h h') :
    (ringM.slice (Rect.unit (s := S8x256x2048) off S1x256x2048.size h) h').squeeze S256x2048 squeezes_S1x256x2048_S256x2048 = slot s :=
  congrArg (fun A : Memref sig .tc .vmem S1x256x2048 .f32 => A.squeeze S256x2048 squeezes_S1x256x2048_S256x2048) (Memref.slice_unit_congr _ e _ _ _ _)
theorem tile_of {off : Fin 3 → Nat} {b : Fin 64} (e : off = tileOff b) (h h') :
    (supM.slice (Rect.unit (s := S8x2048x2048) off S1x256x2048.size h) h').squeeze S256x2048 squeezes_S1x256x2048_S256x2048 = tile b :=
  congrArg (fun A : Memref sig .tc .hbm S1x256x2048 .f32 => A.squeeze S256x2048 squeezes_S1x256x2048_S256x2048) (Memref.slice_unit_congr _ e _ _ _ _)

/-- Trip `k` waits on its slot's cell for tile `k` in that slot, … -/
@[sl_canon] theorem cell_wait (k : Trip) (h) :
    (cc0_scratch3.slice (Rect.unit (s := S8) (k0_off3 k) S1.size h)).squeeze S_ squeezes_S1_S_ = cell (Ring.sl 8 k.val) := cell_of (off3_eq k) _
@[sl_canon] theorem slot_wait (k : Trip) (h h') :
    (ringM.slice (Rect.unit (s := S8x256x2048) (k0_off4 k) S1x256x2048.size h) h').squeeze S256x2048 squeezes_S1x256x2048_S256x2048 = slot (Ring.sl 8 k.val) := slot_of (off4_eq k) _ _
@[sl_canon] theorem tile_wait (k : Trip) (h h') :
    (supM.slice (Rect.unit (s := S8x2048x2048) (k0_off5 k) S1x256x2048.size h) h').squeeze S256x2048 squeezes_S1x256x2048_S256x2048 = tile (Ring.bk 64 k.val) := tile_of (off5_eq k) _ _
/-- … and issues tile `k + 8` into it. -/
@[sl_canon] theorem cell_issue (k : Trip) (h) :
    (cc0_scratch3.slice (Rect.unit (s := S8) (k0_off10 k) S1.size h)).squeeze S_ squeezes_S1_S_ = cell (Ring.sl 8 k.val) := cell_of (off10_eq k) _
@[sl_canon] theorem slot_issue (k : Trip) (h h') :
    (ringM.slice (Rect.unit (s := S8x256x2048) (k0_off11 k) S1x256x2048.size h) h').squeeze S256x2048 squeezes_S1x256x2048_S256x2048 = slot (Ring.sl 8 k.val) := slot_of (off11_eq k) _ _
@[sl_canon] theorem tile_issue (k : Trip) (hk : k.val + 8 < 64) (h h') :
    (supM.slice (Rect.unit (s := S8x2048x2048) (k0_off12 k) S1x256x2048.size h) h').squeeze S256x2048 squeezes_S1x256x2048_S256x2048 = tile (Ring.bk 64 (k.val + 8)) := tile_of (off12_eq k hk) _ _

/-! The prologue's slices, at literal numbers: slot, cell and tile `j` for `j < 8` (all of them in batch 0). -/

@[sl_canon] theorem cell_lit0 (h) : (cc0_scratch3.slice (Rect.unit (s := S8) (k0_off1 0#32) S1.size h)).squeeze S_ squeezes_S1_S_ = cell 0 := cell_of (by decide) _
@[sl_canon] theorem slot_lit0 (h h') : (ringM.slice (Rect.unit (s := S8x256x2048) (k0_off2 0#32) S1x256x2048.size h) h').squeeze S256x2048 squeezes_S1x256x2048_S256x2048 = slot 0 := slot_of (by decide) _ _
@[sl_canon] theorem tile_lit0 (h h') : (supM.slice (Rect.unit (s := S8x2048x2048) ![0, 0, 0] S1x256x2048.size h) h').squeeze S256x2048 squeezes_S1x256x2048_S256x2048 = tile 0 := tile_of (by decide) _ _
@[sl_canon] theorem cell_lit1 (h) : (cc0_scratch3.slice (Rect.unit (s := S8) (k0_off1 1#32) S1.size h)).squeeze S_ squeezes_S1_S_ = cell 1 := cell_of (by decide) _
@[sl_canon] theorem slot_lit1 (h h') : (ringM.slice (Rect.unit (s := S8x256x2048) (k0_off2 1#32) S1x256x2048.size h) h').squeeze S256x2048 squeezes_S1x256x2048_S256x2048 = slot 1 := slot_of (by decide) _ _
@[sl_canon] theorem tile_lit1 (h h') : (supM.slice (Rect.unit (s := S8x2048x2048) ![0, 256, 0] S1x256x2048.size h) h').squeeze S256x2048 squeezes_S1x256x2048_S256x2048 = tile 1 := tile_of (by decide) _ _
@[sl_canon] theorem cell_lit2 (h) : (cc0_scratch3.slice (Rect.unit (s := S8) (k0_off1 2#32) S1.size h)).squeeze S_ squeezes_S1_S_ = cell 2 := cell_of (by decide) _
@[sl_canon] theorem slot_lit2 (h h') : (ringM.slice (Rect.unit (s := S8x256x2048) (k0_off2 2#32) S1x256x2048.size h) h').squeeze S256x2048 squeezes_S1x256x2048_S256x2048 = slot 2 := slot_of (by decide) _ _
@[sl_canon] theorem tile_lit2 (h h') : (supM.slice (Rect.unit (s := S8x2048x2048) ![0, 512, 0] S1x256x2048.size h) h').squeeze S256x2048 squeezes_S1x256x2048_S256x2048 = tile 2 := tile_of (by decide) _ _
@[sl_canon] theorem cell_lit3 (h) : (cc0_scratch3.slice (Rect.unit (s := S8) (k0_off1 3#32) S1.size h)).squeeze S_ squeezes_S1_S_ = cell 3 := cell_of (by decide) _
@[sl_canon] theorem slot_lit3 (h h') : (ringM.slice (Rect.unit (s := S8x256x2048) (k0_off2 3#32) S1x256x2048.size h) h').squeeze S256x2048 squeezes_S1x256x2048_S256x2048 = slot 3 := slot_of (by decide) _ _
@[sl_canon] theorem tile_lit3 (h h') : (supM.slice (Rect.unit (s := S8x2048x2048) ![0, 768, 0] S1x256x2048.size h) h').squeeze S256x2048 squeezes_S1x256x2048_S256x2048 = tile 3 := tile_of (by decide) _ _
@[sl_canon] theorem cell_lit4 (h) : (cc0_scratch3.slice (Rect.unit (s := S8) (k0_off1 4#32) S1.size h)).squeeze S_ squeezes_S1_S_ = cell 4 := cell_of (by decide) _
@[sl_canon] theorem slot_lit4 (h h') : (ringM.slice (Rect.unit (s := S8x256x2048) (k0_off2 4#32) S1x256x2048.size h) h').squeeze S256x2048 squeezes_S1x256x2048_S256x2048 = slot 4 := slot_of (by decide) _ _
@[sl_canon] theorem tile_lit4 (h h') : (supM.slice (Rect.unit (s := S8x2048x2048) ![0, 1024, 0] S1x256x2048.size h) h').squeeze S256x2048 squeezes_S1x256x2048_S256x2048 = tile 4 := tile_of (by decide) _ _
@[sl_canon] theorem cell_lit5 (h) : (cc0_scratch3.slice (Rect.unit (s := S8) (k0_off1 5#32) S1.size h)).squeeze S_ squeezes_S1_S_ = cell 5 := cell_of (by decide) _
@[sl_canon] theorem slot_lit5 (h h') : (ringM.slice (Rect.unit (s := S8x256x2048) (k0_off2 5#32) S1x256x2048.size h) h').squeeze S256x2048 squeezes_S1x256x2048_S256x2048 = slot 5 := slot_of (by decide) _ _
@[sl_canon] theorem tile_lit5 (h h') : (supM.slice (Rect.unit (s := S8x2048x2048) ![0, 1280, 0] S1x256x2048.size h) h').squeeze S256x2048 squeezes_S1x256x2048_S256x2048 = tile 5 := tile_of (by decide) _ _
@[sl_canon] theorem cell_lit6 (h) : (cc0_scratch3.slice (Rect.unit (s := S8) (k0_off1 6#32) S1.size h)).squeeze S_ squeezes_S1_S_ = cell 6 := cell_of (by decide) _
@[sl_canon] theorem slot_lit6 (h h') : (ringM.slice (Rect.unit (s := S8x256x2048) (k0_off2 6#32) S1x256x2048.size h) h').squeeze S256x2048 squeezes_S1x256x2048_S256x2048 = slot 6 := slot_of (by decide) _ _
@[sl_canon] theorem tile_lit6 (h h') : (supM.slice (Rect.unit (s := S8x2048x2048) ![0, 1536, 0] S1x256x2048.size h) h').squeeze S256x2048 squeezes_S1x256x2048_S256x2048 = tile 6 := tile_of (by decide) _ _
@[sl_canon] theorem cell_lit7 (h) : (cc0_scratch3.slice (Rect.unit (s := S8) (k0_off1 7#32) S1.size h)).squeeze S_ squeezes_S1_S_ = cell 7 := cell_of (by decide) _
@[sl_canon] theorem slot_lit7 (h h') : (ringM.slice (Rect.unit (s := S8x256x2048) (k0_off2 7#32) S1x256x2048.size h) h').squeeze S256x2048 squeezes_S1x256x2048_S256x2048 = slot 7 := slot_of (by decide) _ _
@[sl_canon] theorem tile_lit7 (h h') : (supM.slice (Rect.unit (s := S8x2048x2048) ![0, 1792, 0] S1x256x2048.size h) h').squeeze S256x2048 squeezes_S1x256x2048_S256x2048 = tile 7 := tile_of (by decide) _ _

end Cert.Proof.Tau

end
-- ==== Proof.Stream.lean ====
/-
  The streaming ring as separation-logic resources. A tile of `support` is either HOME (held at its contents) or in
  flight towards its slot; a slot is either IN FLIGHT with one tile or free beside its cell. Before trip `k` the
  tiles `k … k + 7` (those that exist) are in flight, each in its own slot, and every other tile is home.
-/
module

public import proofs.«01_k».proof.Proof.Names

@[expose] public section

noncomputable section

namespace Cert.Proof.Tau

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra: the pipeline library's, beside the counters that the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem of_eq {P Q : sProp 𝕄} (e : P = Q) : P ⊢ Q := e ▸ .rfl

/-- One member of a finite conjunction apart from the rest. -/
theorem sep_out {I : Type} [DecidableEq I] {S : Finset I} {i : I} (h : i ∈ S) (Φ : I → sProp 𝕄) :
    bigSep S Φ = iprop(Φ i ∗ bigSep (S.erase i) Φ) := by
  conv_lhs => rw [← Finset.insert_erase h, bigSep_insert (Finset.notMem_erase _ _)]
  rfl

section Pieces
variable (c : Dev nD) (XS : Buf (Elt F) (supM.view.loc (c : Thread nD τ)))

/-- Slot `s`'s cell at zero. -/
abbrev cellP (s : Fin 8) : sProp 𝕄 := semVal ((c : Thread nD τ), SemLoc.dma (cell s).sem) 0
/-- Slot `s` held at contents `f`. -/
abbrev slotP (s : Fin 8) (f : Buf (Elt F) ((slot s).view.loc (c : Thread nD τ))) : sProp 𝕄 :=
  (slot s).view.loc (c : Thread nD τ) ↦[(slot s).view.set]{fullShare} f
/-- Tile `b` home. -/
abbrev homeP (b : Fin 64) : sProp 𝕄 := (tile b).view.loc (c : Thread nD τ) ↦[(tile b).view.set]{fullShare} XS
/-- The words of tile `b`. -/
abbrev tileWords (b : Fin 64) : S256x2048.Idx → Elt F .f32 := ReadAs.same.apply ((tile b).view.read (Elt F) XS)
/-- Slot `s` after tile `b` has landed on contents `f`. -/
abbrev landed (s : Fin 8) (b : Fin 64) (f : Buf (Elt F) ((slot s).view.loc (c : Thread nD τ))) : Buf (Elt F) ((slot s).view.loc (c : Thread nD τ)) :=
  (slot s).view.writes (Elt F) f [⟨Rect.whole S256x2048, tileWords c XS b⟩]
/-- Slot `s` in flight with tile `b`, issued over `f`; a tile's transfer counts 65536 on its cell. -/
abbrev flightP (s : Fin 8) (b : Fin 64) (f : Buf (Elt F) ((slot s).view.loc (c : Thread nD τ))) : sProp 𝕄 :=
  Transfers.Flight countersEmb (c : Thread nD τ) (SemLoc.dma (cell s).sem) () 65536 iprop(slotP c s (landed c XS s b f) ∗ homeP c XS b)

/-- The tile that slot `s` serves next, counted from trip `k`: the first one at or past `k` congruent to `s`. -/
def next (k : ℕ) (s : Fin 8) : ℕ := k + (s.val + 8 - k % 8) % 8
/-- A slot with nothing to carry. -/
abbrev freeP (s : Fin 8) : sProp 𝕄 := iprop((∃ f, slotP c s f) ∗ cellP c s)
/-- Slot `s` before trip `k`. -/
def slotAt (k : ℕ) (s : Fin 8) : sProp 𝕄 :=
  if next k s < 64 then iprop(∃ f, flightP c XS s (Ring.bk 64 (next k s)) f) else freeP c s

theorem next_here (k : ℕ) : next k (Ring.sl 8 k) = k := by
  simp only [next, Ring.sl, Fin.ofNat]; omega
theorem next_after (k : ℕ) : next (k + 1) (Ring.sl 8 k) = k + 8 := by
  simp only [next, Ring.sl, Fin.ofNat]; omega
theorem next_other (k : ℕ) (s : Fin 8) (h : s ≠ Ring.sl 8 k) : next (k + 1) s = next k s := by
  have hs := s.isLt
  have h' : s.val ≠ k % 8 := fun e => h (Fin.ext (by simpa [Ring.sl, Fin.ofNat] using e))
  simp only [next]; omega
theorem next_zero (s : Fin 8) : next 0 s = s.val := by
  have hs := s.isLt
  simp only [next]; omega
theorem next_ge (k : ℕ) (s : Fin 8) : k ≤ next k s := Nat.le_add_right _ _

/-- Before trip `k` its slot is in flight with tile `k`; -/
theorem slotAt_here (k : ℕ) (hk : k < 64) : slotAt c XS k (Ring.sl 8 k) = iprop(∃ f, flightP c XS (Ring.sl 8 k) (Ring.bk 64 k) f) := by
  rw [slotAt, next_here, if_pos hk]
/-- after it, in flight with tile `k + 8`, -/
theorem slotAt_after (k : ℕ) (hk : k + 8 < 64) :
    slotAt c XS (k + 1) (Ring.sl 8 k) = iprop(∃ f, flightP c XS (Ring.sl 8 k) (Ring.bk 64 (k + 8)) f) := by
  rw [slotAt, next_after, if_pos hk]
/-- or free when there is no such tile. -/
theorem slotAt_free (k : ℕ) (hk : ¬k + 8 < 64) : slotAt c XS (k + 1) (Ring.sl 8 k) = freeP c (Ring.sl 8 k) := by
  rw [slotAt, next_after, if_neg hk]

/-- The eight slots before trip `k`: its own apart from the rest; -/
theorem slots_here (k : ℕ) (hk : k < 64) :
    bigSep Finset.univ (slotAt c XS k)
      = iprop((∃ f, flightP c XS (Ring.sl 8 k) (Ring.bk 64 k) f) ∗ bigSep (Finset.univ.erase (Ring.sl 8 k)) (slotAt c XS k)) := by
  rw [sep_out (Finset.mem_univ (Ring.sl 8 k)), slotAt_here c XS k hk]
/-- and after it, the rest the same. -/
theorem slots_next (k : ℕ) :
    bigSep Finset.univ (slotAt c XS (k + 1))
      = iprop(slotAt c XS (k + 1) (Ring.sl 8 k) ∗ bigSep (Finset.univ.erase (Ring.sl 8 k)) (slotAt c XS k)) := by
  rw [sep_out (Finset.mem_univ (Ring.sl 8 k))]
  rw [bigSep_congr (s := Finset.univ.erase (Ring.sl 8 k)) (Φ := slotAt c XS (k + 1)) (Ψ := slotAt c XS k)]
  intro s hs
  rw [slotAt, slotAt, next_other k s (Finset.ne_of_mem_erase hs)]

/-- The tiles home before trip `k`: tile `k + 8`, about to go out, apart from the rest; -/
theorem homes_here (k : ℕ) (hk : k + 8 < 64) :
    bigSep (Ring.homeSet 8 k) (homeP c XS) = iprop(homeP c XS (Ring.bk 64 (k + 8)) ∗ bigSep ((Ring.homeSet 8 k).erase (Ring.bk 64 (k + 8))) (homeP c XS)) :=
  sep_out ((Ring.mem_homeSet 8 k _).2 (.inr (by rw [Ring.bk_val hk]))) _
/-- after it, tile `k` is back and that one gone; -/
theorem homes_next (k : ℕ) (hk : k + 8 < 64) :
    bigSep (Ring.homeSet 8 (k + 1)) (homeP c XS) = iprop(homeP c XS (Ring.bk 64 k) ∗ bigSep ((Ring.homeSet 8 k).erase (Ring.bk 64 (k + 8))) (homeP c XS)) := by
  conv_lhs => rw [Ring.homeSet_succ 8 k hk, bigSep_insert (Ring.bk_not_mem_erase 8 k (by omega) (by decide))]
  rfl
/-- in the last eight trips tile `k` only comes back. -/
theorem homes_tail (k : ℕ) (hk : ¬k + 8 < 64) (h : k < 64) :
    bigSep (Ring.homeSet 8 (k + 1)) (homeP c XS) = iprop(homeP c XS (Ring.bk 64 k) ∗ bigSep (Ring.homeSet 8 k) (homeP c XS)) := by
  conv_lhs => rw [Ring.homeSet_succ_tail 8 k (by omega) h, bigSep_insert (Ring.bk_not_mem_homeSet 8 k h (by decide))]
  rfl

/-- The flight that a trip issues, restated: the slot's earlier landing is part of what it is issued over. -/
theorem flight_over (s : Fin 8) (b b' : Fin 64) :
    flightP c XS s b' ((slot s).view.writes (Elt F) (slot s).view.junk [⟨Rect.whole S256x2048, tileWords c XS b⟩])
      = Transfers.Flight countersEmb (c : Thread nD τ) (SemLoc.dma (cell s).sem) () 65536
          iprop(((slot s).view.loc (c : Thread nD τ) ↦[(slot s).view.set]{fullShare}
                  (slot s).view.writes (Elt F) (slot s).view.junk [⟨Rect.whole S256x2048, tileWords c XS b'⟩, ⟨Rect.whole S256x2048, tileWords c XS b⟩])
                ∗ homeP c XS b') := by
  simp only [flightP, landed, slotP, View.writes]

end Pieces

end Cert.Proof.Tau

end
-- ==== Proof.Trip.lean ====
/-
  One trip of the streaming loop, run once at a symbolic trip number `k`.
-/
module

public import proofs.«01_k».proof.Proof.Stream

@[expose] public section

noncomputable section

namespace Cert.Proof.Tau

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Trip
variable (c : Dev nD) (XS : Buf (Elt F) (supM.view.loc (c : Thread nD τ)))
  (arg1 : Memref sig .tc .vmem S8x2048x256 .f32) (harg1 : arg1.IsWhole)
  (arg2 : Memref sig .tc .vmem S256x256 .f32) (harg2 : arg2.IsWhole)
  (arg3 : Memref sig .tc .vmem S1x256 .f32) (harg3 : arg3.IsWhole)
  (arg4 : Memref sig .tc .vmem S8x2048x1 .f32) (harg4 : arg4.IsWhole)
  (arg5 : Memref sig .tc .vmem S8x2048x1 .f32) (harg5 : arg5.IsWhole)
  (arg7 : Memref sig .tc .vmem S8x2048x256 .f32) (harg7 : arg7.IsWhole)
  (arg8 : Memref sig .tc .vmem S8x2048x512 .bf16) (harg8 : arg8.IsWhole)

/-- The rows of the output that trip `k` stores. -/
abbrev outRect (k : Trip) : Rect S8x2048x1 := Rect.unit (s := S8x2048x1) (k0_off7 k) S1x256x1.size (k0_off7_inb k)

/-- A whole buffer at contents `f`. -/
abbrev heldP {S : Shape} {e : EltTy} (a : Memref sig .tc .vmem S e) (f : Buf (Elt F) (a.view.loc (c : Thread nD τ))) : sProp 𝕄 :=
  a.view.loc (c : Thread nD τ) ↦[a.view.set]{fullShare} f

/-- Everything that the loop touches, before trip `k`: mask, projected features and augmented features at fixed
    contents, the output at `fo`, the tiles at home, the slots, the core's `owes`. -/
def ringAt (g4 : Buf (Elt F) (arg4.view.loc (c : Thread nD τ))) (g7 : Buf (Elt F) (arg7.view.loc (c : Thread nD τ)))
    (g8 : Buf (Elt F) (arg8.view.loc (c : Thread nD τ))) (k : ℕ) (fo : Buf (Elt F) (arg5.view.loc (c : Thread nD τ))) : sProp 𝕄 :=
  iprop(heldP c arg4 g4 ∗ heldP c arg5 fo ∗ heldP c arg7 g7 ∗ heldP c arg8 g8 ∗ (∃ W, owes (c : Thread nD τ) 0 W)
    ∗ bigSep (Ring.homeSet 8 k) (homeP c XS) ∗ bigSep Finset.univ (slotAt c XS k))

abbrev tripG (k : Trip) (_ : Unit) : Prog (TpuEff nD τ sig (Elt F) Λ₀ .tc) Unit :=
  k0_t1_body (F := F) supM (Memref.isWhole_whole _) arg1 harg1 arg2 harg2 arg3 harg3 arg4 harg4 arg5 harg5 ringM (Memref.isWhole_whole _) arg7 harg7 arg8 harg8 cc0_scratch3 k ()

/-- The tile that trip `k` reads out of the buffer: its slot after tile `k` has landed. -/
abbrev slabOf (k : Trip) : Vec F S1x256x2048 .f32 :=
  ringM.view.readAt (Elt F) (Rect.unit (s := S8x256x2048) (k0_off8 k) S1x256x2048.size (k0_off8_inb k)).toLoadRect
    ((slot (Ring.sl 8 k.val)).view.writes (Elt F) (slot (Ring.sl 8 k.val)).view.junk [⟨Rect.whole S256x2048, tileWords c XS (Ring.bk 64 k.val)⟩])
/-- What trip `k` stores: `k0_pay3` of its rows of the projected features and of the mask, its tile, and its batch's
    augmented features. -/
abbrev tripOut (g4 : Buf (Elt F) (arg4.view.loc (c : Thread nD τ))) (g7 : Buf (Elt F) (arg7.view.loc (c : Thread nD τ)))
    (g8 : Buf (Elt F) (arg8.view.loc (c : Thread nD τ))) (k : Trip) : FVec F S1x256x1 .f32 :=
  k0_pay3 (k0_pay2 (arg7.view.readAt (Elt F) (Rect.unit (s := S8x2048x256) (k0_off6 k) S1x256x256.size (k0_off6_inb k)).toLoadRect g7))
    (arg4.view.readAt (Elt F) (Rect.unit (s := S8x2048x1) (k0_off7 k) S1x256x1.size (k0_off7_inb k)).toLoadRect g4)
    (slabOf c XS k)
    (arg8.view.readAt (Elt F) (Rect.unit (s := S8x2048x512) (k0_off9 k) S1x2048x512.size (k0_off9_inb k)).toLoadRect g8)

set_option backward.proofsInPublic true in
/-- ONE TRIP: wait for tile `k` in its slot, compute and store the 256 output rows, and, while there is a tile
    `k + 8`, issue it into the slot just read. -/
theorem trip_run (g4 g7 g8) (k : Trip) (fo : Buf (Elt F) (arg5.view.loc (c : Thread nD τ))) :
    ringAt c XS arg4 arg5 arg7 arg8 g4 g7 g8 k.val fo
      ⊢ wp frame (wpE (defs₀ (F := F)) 𝒱₀ (c : Thread nD τ) none) Set.univ (tripG arg1 harg1 arg2 harg2 arg3 harg3 arg4 harg4 arg5 harg5 arg7 harg7 arg8 harg8 k ())
        (fun _ => ringAt c XS arg4 arg5 arg7 arg8 g4 g7 g8 (k.val + 1)
          (arg5.view.writes (Elt F) fo [⟨outRect k, tripOut c XS arg4 arg7 arg8 g4 g7 g8 k⟩])) := by
  have hk64 : k.val < 64 := trip_lt k
  by_cases hk : k.val + 8 < 64
  · have h1 : k0_cond1 k = 1#1 := (cond1_eq k).2 hk
    unfold ringAt
    rw [slots_here c XS k.val hk64, homes_here c XS k.val hk, slots_next, homes_next c XS k.val hk, slotAt_after c XS k.val hk]
    iintro ⟨H4, H5, H7, H8, ⟨%W, HW⟩, ⟨Hg, Hh⟩, ⟨%f, HF⟩, Hs⟩
    dsimp only [tripG]
    sl_unfold [k0_t1_body]
    sl_exec
    sl_step
    isplitl [H4]; · iexact H4
    isplitl [H5]; · iexact H5
    isplitl [H7]; · iexact H7
    isplitl [H8]; · iexact H8
    isplitl [HW]; · iexists _; iexact HW
    isplitl [HF_src Hh]
    · isplitl [HF_src]; · iexact HF_src
      iexact Hh
    isplitl [HF]
    · iexists ((slot (Ring.sl 8 k.val)).view.writes (Elt F) (slot (Ring.sl 8 k.val)).view.junk [⟨Rect.whole S256x2048, tileWords c XS (Ring.bk 64 k.val)⟩])
      irw [flight_over]
      iexact HF
    iexact Hs
  · have h1 : ¬k0_cond1 k = 1#1 := fun h => hk ((cond1_eq k).1 h)
    unfold ringAt
    rw [slots_here c XS k.val hk64, slots_next, homes_tail c XS k.val hk hk64, slotAt_free c XS k.val hk]
    iintro ⟨H4, H5, H7, H8, ⟨%W, HW⟩, Hh, ⟨%f, HF⟩, Hs⟩
    dsimp only [tripG]
    sl_unfold [k0_t1_body]
    sl_exec
    sl_step
    isplitl [H4]; · iexact H4
    isplitl [H5]; · iexact H5
    isplitl [H7]; · iexact H7
    isplitl [H8]; · iexact H8
    isplitl [HW]; · iexists _; iexact HW
    isplitl [HF_src Hh]
    · isplitl [HF_src]; · iexact HF_src
      iexact Hh
    isplitl [HF HF_dst]
    · isplitl [HF_dst]; · iexists _; iexact HF_dst
      iexact HF
    iexact Hs

end Trip

end Cert.Proof.Tau

end
-- ==== Proof.Body.lean ====
/-
  The kernel body: the eight transfers of the prologue, the eight batch stages that fill the projected and the
  augmented features, the streaming loop.
-/
module

public import proofs.«01_k».proof.Proof.Trip

@[expose] public section

noncomputable section

namespace Cert.Proof.Tau

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Body
variable (c : Dev nD) (XS : Buf (Elt F) (supM.view.loc (c : Thread nD τ)))
  (arg1 : Memref sig .tc .vmem S8x2048x256 .f32) (harg1 : arg1.IsWhole)
  (arg2 : Memref sig .tc .vmem S256x256 .f32) (harg2 : arg2.IsWhole)
  (arg3 : Memref sig .tc .vmem S1x256 .f32) (harg3 : arg3.IsWhole)
  (arg4 : Memref sig .tc .vmem S8x2048x1 .f32) (harg4 : arg4.IsWhole)
  (arg5 : Memref sig .tc .vmem S8x2048x1 .f32) (harg5 : arg5.IsWhole)
  (arg7 : Memref sig .tc .vmem S8x2048x256 .f32) (harg7 : arg7.IsWhole)
  (arg8 : Memref sig .tc .vmem S8x2048x512 .bf16) (harg8 : arg8.IsWhole)

/-- The output buffer after the first `k` trips, from contents `o0`: each trip's rows written over it. -/
def outAcc (g4 : Buf (Elt F) (arg4.view.loc (c : Thread nD τ))) (g7 : Buf (Elt F) (arg7.view.loc (c : Thread nD τ)))
    (g8 : Buf (Elt F) (arg8.view.loc (c : Thread nD τ))) (o0 : Buf (Elt F) (arg5.view.loc (c : Thread nD τ))) : ℕ → Buf (Elt F) (arg5.view.loc (c : Thread nD τ))
  | 0 => o0
  | k + 1 =>
    if h : k < k0_t1_loop.trips then
      arg5.view.writes (Elt F) (outAcc g4 g7 g8 o0 k) [⟨outRect ⟨k, h⟩, tripOut c XS arg4 arg7 arg8 g4 g7 g8 ⟨k, h⟩⟩]
    else outAcc g4 g7 g8 o0 k

theorem outAcc_succ (g4 : Buf (Elt F) (arg4.view.loc (c : Thread nD τ))) (g7 : Buf (Elt F) (arg7.view.loc (c : Thread nD τ)))
    (g8 : Buf (Elt F) (arg8.view.loc (c : Thread nD τ))) (o0 : Buf (Elt F) (arg5.view.loc (c : Thread nD τ))) (k : Trip) :
    outAcc c XS arg4 arg5 arg7 arg8 g4 g7 g8 o0 (k.val + 1)
      = arg5.view.writes (Elt F) (outAcc c XS arg4 arg5 arg7 arg8 g4 g7 g8 o0 k.val) [⟨outRect k, tripOut c XS arg4 arg7 arg8 g4 g7 g8 k⟩] := by
  rw [outAcc, dif_pos k.isLt]

/-- THE STREAMING LOOP: from the ring before trip 0 to the ring after the last. -/
theorem stream_run (g4 : Buf (Elt F) (arg4.view.loc (c : Thread nD τ))) (g7 : Buf (Elt F) (arg7.view.loc (c : Thread nD τ)))
    (g8 : Buf (Elt F) (arg8.view.loc (c : Thread nD τ))) (o0 : Buf (Elt F) (arg5.view.loc (c : Thread nD τ))) {β : Type} (kk : Unit → Prog (TpuEff nD τ sig (Elt F) Λ₀ .tc) β) (Q : β → sProp 𝕄) :
    ringAt c XS arg4 arg5 arg7 arg8 g4 g7 g8 0 o0
      ⊢ iprop((ringAt c XS arg4 arg5 arg7 arg8 g4 g7 g8 k0_t1_loop.trips (outAcc c XS arg4 arg5 arg7 arg8 g4 g7 g8 o0 k0_t1_loop.trips)
          -∗ wp frame (wpE (defs₀ (F := F)) 𝒱₀ (c : Thread nD τ) none) Set.univ (kk ()) Q)
        -∗ wp frame (wpE (defs₀ (F := F)) 𝒱₀ (c : Thread nD τ) none) Set.univ (k0_t1_loop.for k0_t1_ok () (tripG arg1 harg1 arg2 harg2 arg3 harg3 arg4 harg4 arg5 harg5 arg7 harg7 arg8 harg8) >>= kk) Q) := by
  iintro HI HK
  iapply (Scf.wp_for_bind frame (wpE (defs₀ (F := F)) 𝒱₀ (c : Thread nD τ) none) Set.univ k0_t1_loop.lb k0_t1_loop.ub k0_t1_loop.st k0_t1_ok () _
    (fun k _ => ringAt c XS arg4 arg5 arg7 arg8 g4 g7 g8 k (outAcc c XS arg4 arg5 arg7 arg8 g4 g7 g8 o0 k))
    (fun k _ => by
      rw [outAcc_succ c XS arg4 arg5 arg7 arg8 g4 g7 g8 o0 k]
      exact trip_run c XS arg1 harg1 arg2 harg2 arg3 harg3 arg4 harg4 arg5 harg5 arg7 harg7 arg8 harg8 g4 g7 g8 k _)) $$ [HI]
  · iexact HI
  iintro %_ Hinv
  iapply HK
  iexact Hinv

/-- The body on the given staging memrefs, `support` and the scratch operands its own. -/
abbrev bodyG : Prog (TpuEff nD τ sig (Elt F) Λ₀ .tc) PUnit :=
  cc0__g2_kernel (F := F) supM (Memref.isWhole_whole _) arg1 harg1 arg2 harg2 arg3 harg3 arg4 harg4 arg5 harg5 ringM (Memref.isWhole_whole _) arg7 harg7 arg8 harg8 cc0_scratch3

omit [FloatOps F] in
/-- A conjunction over the eight slots, one by one. -/
theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- The first eight tiles apart from the others. -/
theorem homes_split : bigSep Finset.univ (homeP c XS)
    = iprop(bigSep Finset.univ (fun s : Fin 8 => homeP c XS (Ring.bk 64 s.val)) ∗ bigSep (Ring.homeSet 8 0) (homeP c XS)) := by
  have e : (Finset.univ : Finset (Fin 64)) = (Finset.univ.map ⟨fun s : Fin 8 => Ring.bk 64 s.val, by decide⟩) ∪ Ring.homeSet 8 0 := by decide
  rw [e, bigSep_union (by decide), bigSep_map]; rfl

/-- Before trip 0 slot `s` is in flight with tile `s`. -/
theorem slotAt_zero (s : Fin 8) : slotAt c XS 0 s = iprop(∃ f, flightP c XS s (Ring.bk 64 s.val) f) := by
  have hs := s.isLt
  rw [slotAt, next_zero, if_pos (by omega)]
/-- After the last trip every slot is free. -/
theorem slotAt_last (s : Fin 8) : slotAt c XS k0_t1_loop.trips s = freeP c s := by
  rw [slotAt, if_neg]
  have := next_ge k0_t1_loop.trips s
  rw [trips_eq] at *
  omega

/-- Batch `n` of a whole array of eight batches. -/
theorem batch_inb {d e : ℕ} (n : Fin 8) : ∀ a, (![n.val, 0, 0] : Fin 3 → ℕ) a + (⟨3, ![1, d, e]⟩ : Shape).size a ≤ (⟨3, ![8, d, e]⟩ : Shape).size a := by
  have hn := n.isLt
  intro a
  fin_cases a
  · show n.val + 1 ≤ 8; omega
  · show 0 + d ≤ d; omega
  · show 0 + e ≤ e; omega
abbrev xRect (n : Fin 8) : Rect S8x2048x256 := Rect.unit (s := S8x2048x256) ![n.val, 0, 0] S1x2048x256.size (batch_inb n)
abbrev aRect (n : Fin 8) : Rect S8x2048x512 := Rect.unit (s := S8x2048x512) ![n.val, 0, 0] S1x2048x512.size (batch_inb n)
abbrev mRect (n : Fin 8) : Rect S8x2048x1 := Rect.unit (s := S8x2048x1) ![n.val, 0, 0] S1x2048x1.size (batch_inb n)

/-- Batch `n` of the features, the weights and the bias, as a batch stage loads them. -/
abbrev ldX (g1 : Buf (Elt F) (arg1.view.loc (c : Thread nD τ))) (n : Fin 8) : Vec F S1x2048x256 .f32 := arg1.view.readAt (Elt F) (xRect n).toLoadRect g1
abbrev ldW (g2 : Buf (Elt F) (arg2.view.loc (c : Thread nD τ))) : Vec F S256x256 .f32 :=
  arg2.view.readAt (Elt F) (Rect.unit (s := S256x256) ![0, 0] S256x256.size inb_S256x256_S256x256_0_0).toLoadRect g2
abbrev ldB (g3 : Buf (Elt F) (arg3.view.loc (c : Thread nD τ))) : Vec F S1x256 .f32 :=
  arg3.view.readAt (Elt F) (Rect.unit (s := S1x256) ![0, 0] S1x256.size inb_S1x256_S1x256_0_0).toLoadRect g3
abbrev ldM (g4 : Buf (Elt F) (arg4.view.loc (c : Thread nD τ))) (n : Fin 8) : Vec F S1x2048x1 .f32 := arg4.view.readAt (Elt F) (mRect n).toLoadRect g4

/-- What stage `n` stores into the projected features, and into the augmented ones. -/
abbrev projPiece (g1 : Buf (Elt F) (arg1.view.loc (c : Thread nD τ))) (g2 : Buf (Elt F) (arg2.view.loc (c : Thread nD τ))) (g3 : Buf (Elt F) (arg3.view.loc (c : Thread nD τ))) (n : Fin 8) : View.Piece (Elt F) S8x2048x256 .f32 := ⟨xRect n, k0_pay5 (ldX c arg1 g1 n) (ldW c arg2 g2) (ldB c arg3 g3)⟩
abbrev augPiece (g1 : Buf (Elt F) (arg1.view.loc (c : Thread nD τ))) (g2 : Buf (Elt F) (arg2.view.loc (c : Thread nD τ))) (g3 : Buf (Elt F) (arg3.view.loc (c : Thread nD τ))) (g4 : Buf (Elt F) (arg4.view.loc (c : Thread nD τ))) (n : Fin 8) : View.Piece (Elt F) S8x2048x512 .bf16 := ⟨aRect n, k0_pay6 (ldX c arg1 g1 n) (ldW c arg2 g2) (ldB c arg3 g3) (ldM c arg4 g4 n)⟩
/-- The two scratch arrays after the eight stages. -/
def projBuf (g1 : Buf (Elt F) (arg1.view.loc (c : Thread nD τ))) (g2 : Buf (Elt F) (arg2.view.loc (c : Thread nD τ))) (g3 : Buf (Elt F) (arg3.view.loc (c : Thread nD τ))) : Buf (Elt F) (arg7.view.loc (c : Thread nD τ)) :=
  arg7.view.writes (Elt F) arg7.view.junk
    [projPiece c arg1 arg2 arg3 g1 g2 g3 7, projPiece c arg1 arg2 arg3 g1 g2 g3 6, projPiece c arg1 arg2 arg3 g1 g2 g3 5, projPiece c arg1 arg2 arg3 g1 g2 g3 4,
     projPiece c arg1 arg2 arg3 g1 g2 g3 3, projPiece c arg1 arg2 arg3 g1 g2 g3 2, projPiece c arg1 arg2 arg3 g1 g2 g3 1, projPiece c arg1 arg2 arg3 g1 g2 g3 0]
def augBuf (g1 : Buf (Elt F) (arg1.view.loc (c : Thread nD τ))) (g2 : Buf (Elt F) (arg2.view.loc (c : Thread nD τ))) (g3 : Buf (Elt F) (arg3.view.loc (c : Thread nD τ))) (g4 : Buf (Elt F) (arg4.view.loc (c : Thread nD τ))) : Buf (Elt F) (arg8.view.loc (c : Thread nD τ)) :=
  arg8.view.writes (Elt F) arg8.view.junk
    [augPiece c arg1 arg2 arg3 arg4 g1 g2 g3 g4 7, augPiece c arg1 arg2 arg3 arg4 g1 g2 g3 g4 6, augPiece c arg1 arg2 arg3 arg4 g1 g2 g3 g4 5, augPiece c arg1 arg2 arg3 arg4 g1 g2 g3 g4 4,
     augPiece c arg1 arg2 arg3 arg4 g1 g2 g3 g4 3, augPiece c arg1 arg2 arg3 arg4 g1 g2 g3 g4 2, augPiece c arg1 arg2 arg3 arg4 g1 g2 g3 g4 1, augPiece c arg1 arg2 arg3 arg4 g1 g2 g3 g4 0]

/-- What the body leaves in the output's staging buffer, which held `gO`. -/
def outBuf (g1 : Buf (Elt F) (arg1.view.loc (c : Thread nD τ))) (g2 : Buf (Elt F) (arg2.view.loc (c : Thread nD τ))) (g3 : Buf (Elt F) (arg3.view.loc (c : Thread nD τ))) (g4 : Buf (Elt F) (arg4.view.loc (c : Thread nD τ))) (gO : Buf (Elt F) (arg5.view.loc (c : Thread nD τ))) : Buf (Elt F) (arg5.view.loc (c : Thread nD τ)) :=
  outAcc c XS arg4 arg5 arg7 arg8 g4 (projBuf c arg1 arg2 arg3 arg7 g1 g2 g3) (augBuf c arg1 arg2 arg3 arg4 arg8 g1 g2 g3 g4) gO k0_t1_loop.trips

set_option backward.proofsInPublic true in
/-- THE BODY. -/
theorem body_run (g1 g2 g3 g4 gO W) (Q : PUnit → sProp 𝕄) :
    iprop((heldP c arg1 g1 ∗ heldP c arg2 g2 ∗ heldP c arg3 g3 ∗ heldP c arg4 g4 ∗ heldP c arg5 gO ∗ (∃ g7, heldP c arg7 g7) ∗ (∃ g8, heldP c arg8 g8)
      ∗ owes (c : Thread nD τ) 0 W ∗ bigSep Finset.univ (homeP c XS) ∗ bigSep Finset.univ (freeP (F := F) c))
      ∗ ((heldP c arg1 g1 ∗ heldP c arg2 g2 ∗ heldP c arg3 g3 ∗ heldP c arg4 g4
          ∗ heldP c arg5 (outBuf c XS arg1 arg2 arg3 arg4 arg5 arg7 arg8 g1 g2 g3 g4 gO) ∗ (∃ g7, heldP c arg7 g7) ∗ (∃ g8, heldP c arg8 g8)
          ∗ (∃ W, owes (c : Thread nD τ) 0 W) ∗ bigSep Finset.univ (homeP c XS) ∗ bigSep Finset.univ (freeP (F := F) c)) -∗ Q ⟨⟩))
      ⊢ wp frame (wpE (defs₀ (F := F)) 𝒱₀ (c : Thread nD τ) none) Set.univ (bodyG arg1 harg1 arg2 harg2 arg3 harg3 arg4 harg4 arg5 harg5 arg7 harg7 arg8 harg8) Q := by
  iintro ⟨⟨H1, H2, H3, H4, H5, ⟨%g7, H7⟩, ⟨%g8, H8⟩, HW, Hhome, Hfree⟩, Hk⟩
  ihave Hhome' := (of_eq ((homes_split c XS).trans (congrArg (fun A => iprop(A ∗ bigSep (Ring.homeSet 8 0) (homeP c XS))) (sep8 (fun s : Fin 8 => homeP c XS (Ring.bk 64 s.val)))))) $$ Hhome
  ihave Hfree' := (of_eq (sep8 (freeP (F := F) c))) $$ Hfree
  icases Hhome' with ⟨⟨Hh0, Hh1, Hh2, Hh3, Hh4, Hh5, Hh6, Hh7⟩, Hh⟩
  icases Hfree' with ⟨⟨⟨%f0, Hs0⟩, Hc0⟩, ⟨⟨%f1, Hs1⟩, Hc1⟩, ⟨⟨%f2, Hs2⟩, Hc2⟩, ⟨⟨%f3, Hs3⟩, Hc3⟩, ⟨⟨%f4, Hs4⟩, Hc4⟩, ⟨⟨%f5, Hs5⟩, Hc5⟩, ⟨⟨%f6, Hs6⟩, Hc6⟩, ⟨⟨%f7, Hs7⟩, Hc7⟩⟩
  -- the prologue's transfers and the eight stages
  sl_exec
  -- the ring before trip 0
  ihave Hring : (bigSep Finset.univ (slotAt c XS 0) : sProp 𝕄) $$ [Hc0 Hc1 Hc2 Hc3 Hc4 Hc5 Hc6 Hc7]
  · irw [sep8 (slotAt c XS 0), slotAt_zero, slotAt_zero, slotAt_zero, slotAt_zero, slotAt_zero, slotAt_zero, slotAt_zero, slotAt_zero]
    isplitl [Hc0]; · iexists f0; iexact Hc0
    isplitl [Hc1]; · iexists f1; iexact Hc1
    isplitl [Hc2]; · iexists f2; iexact Hc2
    isplitl [Hc3]; · iexists f3; iexact Hc3
    isplitl [Hc4]; · iexists f4; iexact Hc4
    isplitl [Hc5]; · iexists f5; iexact Hc5
    isplitl [Hc6]; · iexists f6; iexact Hc6
    iexists f7; iexact Hc7
  iapply (stream_run c XS arg1 harg1 arg2 harg2 arg3 harg3 arg4 harg4 arg5 harg5 arg7 harg7 arg8 harg8 g4
    (projBuf c arg1 arg2 arg3 arg7 g1 g2 g3) (augBuf c arg1 arg2 arg3 arg4 arg8 g1 g2 g3 g4) gO) $$ [H4 H5 H7 H8 HW Hh Hring]
  · unfold ringAt
    isplitl [H4]; · iexact H4
    isplitl [H5]; · iexact H5
    isplitl [H7]; · iexact H7
    isplitl [H8]; · iexact H8
    isplitl [HW]; · iexists _; iexact HW
    isplitl [Hh]; · iexact Hh
    iexact Hring
  -- the ring after the last trip
  unfold ringAt
  rw [show Ring.homeSet (NB := 64) 8 k0_t1_loop.trips = Finset.univ from Ring.homeSet_last 8 _ (le_of_eq trips_eq.symm), funext (slotAt_last c XS)]
  iintro ⟨H4, H5, H7, H8, HW, Hh, Hs⟩
  sl_step
  iapply Hk
  isplitl [H1]; · iexact H1
  isplitl [H2]; · iexact H2
  isplitl [H3]; · iexact H3
  isplitl [H4]; · iexact H4
  isplitl [H5]; · iexact H5
  isplitl [H7]; · iexists _; iexact H7
  isplitl [H8]; · iexists _; iexact H8
  isplitl [HW]; · iexact HW
  isplitl [Hh]; · iexact Hh
  iexact Hs

end Body

end Cert.Proof.Tau

end
-- ==== Proof.Out.lean ====
/-
  What the body leaves in the output, read off as a function of what its inputs hold: row `i` of batch `b` is the
  trip `8 b + i / 256`'s result at local row `i % 256`, from the batch's projected and augmented features and from
  the tile of `support` that this trip was sent. What the output's buffer held before does not matter.
-/
module

public import proofs.«01_k».proof.Proof.Body
public import Idealize.ShloMosaic.Lib.WritesUnit
public import Idealize.ShloMosaic.Lib.VecWindow
public import Idealize.ShloMosaic.Lib.ViewIndex
public import Idealize.ShloMosaic.Lib.ValueIdxCore

@[expose] public section

noncomputable section

namespace Cert.Proof.Tau

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]

/-! ## The function -/

/-- Batch `n` of an array of eight batches. -/
def batchOf {α : Type} {d e : ℕ} (X : (⟨3, ![8, d, e]⟩ : Shape).Idx → α) (n : Fin 8) : (⟨3, ![1, d, e]⟩ : Shape).Idx → α :=
  fun y => X (ix3 n (y 1) (y 2))
/-- The 256 rows of trip `k` of such an array of 2048 rows a batch. -/
def rowsOf {α : Type} {e : ℕ} (X : (⟨3, ![8, 2048, e]⟩ : Shape).Idx → α) (k : Fin 64) : (⟨3, ![1, 256, e]⟩ : Shape).Idx → α :=
  fun y => X (ix3 (⟨k.val / 8, by omega⟩ : Fin 8) (⟨k.val % 8 * 256 + (y 1).val, by have : (y 1).val < 256 := (y 1).isLt; omega⟩ : Fin 2048) (y 2))

section Fun
variable (S : Vec F S8x2048x2048 .f32) (X : Vec F S8x2048x256 .f32) (W : Vec F S256x256 .f32) (B : Vec F S1x256 .f32) (M : Vec F S8x2048x1 .f32)

/-- The projected features. -/
def projV : Vec F S8x2048x256 .f32 := fun j => k0_pay5 (batchOf X (j 0)) W B (ix3 (0 : Fin 1) (j 1) (j 2))
/-- The augmented features. -/
def augV : Vec F S8x2048x512 .bf16 := fun j => k0_pay6 (batchOf X (j 0)) W B (batchOf M (j 0)) (ix3 (0 : Fin 1) (j 1) (j 2))
/-- Trip `k`'s rows of the output. -/
def rowsV (k : Fin 64) : Vec F S1x256x1 .f32 :=
  k0_pay3 (k0_pay2 (rowsOf (projV X W B) k)) (rowsOf M k) (rowsOf S k) (batchOf (augV X W B M) ⟨k.val / 8, by omega⟩)
/-- The output. -/
def outV : Vec F S8x2048x1 .f32 := fun j =>
  rowsV S X W B M ⟨(j 0).val * 8 + (j 1).val / 256, by
      have h0 : (j 0).val < 8 := (j 0).isLt
      have h1 : (j 1).val < 2048 := (j 1).isLt
      omega⟩
    (ix3 (0 : Fin 1) (⟨(j 1).val % 256, by omega⟩ : Fin 256) (j 2))

end Fun

/-! ## Loads as batches and rows -/

section Loads
variable (c : Dev nD)

theorem readAt_batch {d e : ℕ} {φ : EltTy} (a : Memref sig .tc .vmem ⟨3, ![8, d, e]⟩ φ) (g : Buf (Elt F) (a.view.loc (c : Thread nD τ)))
    {off : Fin 3 → ℕ} (n : Fin 8) (e0 : off = ![n.val, 0, 0]) (h) :
    a.view.readAt (Elt F) (Rect.unit (s := (⟨3, ![8, d, e]⟩ : Shape)) off (⟨3, ![1, d, e]⟩ : Shape).size h).toLoadRect g
      = batchOf (a.view.read (Elt F) g) n := by
  subst e0
  funext y
  rw [View.readAt_apply]
  refine congrArg (a.view.read (Elt F) g) (Shape.idx3_ext ?_ ?_ ?_)
  · have : (y 0).val < 1 := (y 0).isLt
    show n.val + 1 * (y 0).val = n.val; omega
  · show 0 + 1 * (y 1).val = (y 1).val; omega
  · show 0 + 1 * (y 2).val = (y 2).val; omega

theorem readAt_rows {e : ℕ} {φ : EltTy} (a : Memref sig .tc .vmem ⟨3, ![8, 2048, e]⟩ φ) (g : Buf (Elt F) (a.view.loc (c : Thread nD τ)))
    {off : Fin 3 → ℕ} (k : Fin 64) (e0 : off = ![k.val / 8, k.val % 8 * 256, 0]) (h) :
    a.view.readAt (Elt F) (Rect.unit (s := (⟨3, ![8, 2048, e]⟩ : Shape)) off (⟨3, ![1, 256, e]⟩ : Shape).size h).toLoadRect g
      = rowsOf (a.view.read (Elt F) g) k := by
  subst e0
  funext y
  rw [View.readAt_apply]
  refine congrArg (a.view.read (Elt F) g) (Shape.idx3_ext ?_ ?_ ?_)
  · have : (y 0).val < 1 := (y 0).isLt
    show k.val / 8 + 1 * (y 0).val = k.val / 8; omega
  · show k.val % 8 * 256 + 1 * (y 1).val = k.val % 8 * 256 + (y 1).val; omega
  · show 0 + 1 * (y 2).val = (y 2).val; omega

/-- A landed slot holds the tile that was sent. -/
theorem slab_eq (XS : Buf (Elt F) (supM.view.loc (c : Thread nD τ))) (k : Trip) :
    slabOf c XS k = rowsOf (supM.view.read (Elt F) XS) ⟨k.val, trip_lt k⟩ := by
  have hk := trip_lt k
  unfold slabOf
  set s := Ring.sl 8 k.val
  set b := Ring.bk 64 k.val with hb
  have hbv : b.val = k.val := Ring.bk_val hk
  set G := (slot s).view.writes (Elt F) (slot s).view.junk [⟨Rect.whole S256x2048, tileWords c XS b⟩] with hG
  have hread : (slot s).view.read (Elt F) G = tileWords c XS b := by
    funext y
    have e : (Rect.whole S256x2048).emb y = y := funext fun a => Fin.ext (by show 0 + 1 * (y a).val = (y a).val; omega)
    rw [hG, ← e, View.read_writes_cons_emb, e]
  have hR : ringM.view.readAt (Elt F) (Rect.unit (s := S8x256x2048) (k0_off8 k) S1x256x2048.size (k0_off8_inb k)).toLoadRect G
      = (ringM.view.slice (Rect.unit (s := S8x256x2048) (slotOff s) S1x256x2048.size (slotOff_inb s))).read (Elt F) G :=
    (View.readAt_unit (v := ringM.view) (f := G) (inb := k0_off8_inb k) (off8_eq k) (slotOff_inb s)).trans rfl
  rw [hR]
  funext x
  obtain ⟨y, hy⟩ := (Shape.reshapeEquiv (squeezes_S1x256x2048_S256x2048).numel_eq).surjective x
  have h1 : (slot s).view.read (Elt F) G y
      = (ringM.view.slice (Rect.unit (s := S8x256x2048) (slotOff s) S1x256x2048.size (slotOff_inb s))).read (Elt F) G x := by rw [← hy]; rfl
  have h2 : tileWords c XS b y = supM.view.read (Elt F) XS ((Rect.unit (s := S8x2048x2048) (tileOff b) S1x256x2048.size (tileOff_inb b)).emb x) := by rw [← hy]; rfl
  rw [← h1, hread, h2]
  refine congrArg (supM.view.read (Elt F) XS) (Shape.idx3_ext ?_ ?_ ?_)
  · have : (x 0).val < 1 := (x 0).isLt
    show b.val / 8 + 1 * (x 0).val = k.val / 8; omega
  · show b.val % 8 * 256 + 1 * (x 1).val = k.val % 8 * 256 + (x 1).val; omega
  · show 0 + 1 * (x 2).val = (x 2).val; omega

end Loads

/-! ## The eight stages' stores -/

section Eight
variable (c : Dev nD)

/-- Eight batches stored one after another, batch `n` the `n`-th function: the array reads each at its batch. -/
theorem read_eight {d e : ℕ} {φ : EltTy} (a : Memref sig .tc .vmem ⟨3, ![8, d, e]⟩ φ)
    (f : Buf (Elt F) (a.view.loc (c : Thread nD τ))) (w : Fin 8 → (⟨3, ![1, d, e]⟩ : Shape).Idx → Elt F φ) (h : ∀ n : Fin 8, ∀ x, (![n.val, 0, 0] : Fin 3 → ℕ) x + (⟨3, ![1, d, e]⟩ : Shape).size x ≤ (⟨3, ![8, d, e]⟩ : Shape).size x) :
    a.view.read (Elt F) (a.view.writes (Elt F) f
      [⟨Rect.unit _ _ (h 7), w 7⟩, ⟨Rect.unit _ _ (h 6), w 6⟩, ⟨Rect.unit _ _ (h 5), w 5⟩, ⟨Rect.unit _ _ (h 4), w 4⟩,
       ⟨Rect.unit _ _ (h 3), w 3⟩, ⟨Rect.unit _ _ (h 2), w 2⟩, ⟨Rect.unit _ _ (h 1), w 1⟩, ⟨Rect.unit _ _ (h 0), w 0⟩])
      = fun j => w (j 0) (ix3 (0 : Fin 1) (j 1) (j 2)) := by
  funext j
  have here : ∀ (n : Fin 8) (L : List (View.Piece (Elt F) (⟨3, ![8, d, e]⟩ : Shape) φ)), j 0 = n →
      a.view.read (Elt F) (a.view.writes (Elt F) f (⟨Rect.unit _ _ (h n), w n⟩ :: L)) j = w (j 0) (ix3 (0 : Fin 1) (j 1) (j 2)) := by
    intro n L hn
    rw [hn]
    refine View.read_writes_cons_unit_of_mem a.view f (h n) (w n) L j (ix3 (0 : Fin 1) (j 1) (j 2)) rfl fun x => ?_
    match x with
    | ⟨0, _⟩ => show (j 0).val = n.val + 0; rw [hn]; rfl
    | ⟨1, _⟩ => show (j 1).val = 0 + (j 1).val; omega
    | ⟨2, _⟩ => show (j 2).val = 0 + (j 2).val; omega
  have skip : ∀ (n : Fin 8) (L : List (View.Piece (Elt F) (⟨3, ![8, d, e]⟩ : Shape) φ)), j 0 ≠ n →
      a.view.read (Elt F) (a.view.writes (Elt F) f (⟨Rect.unit _ _ (h n), w n⟩ :: L)) j = a.view.read (Elt F) (a.view.writes (Elt F) f L) j := by
    intro n L hn
    refine View.read_writes_cons_unit_of_not_mem a.view f (h n) (w n) L j rfl (0 : Fin 3) ?_
    have hne : (j 0).val ≠ n.val := fun e => hn (Fin.ext e)
    show (j 0).val < n.val ∨ n.val + 1 ≤ (j 0).val
    omega
  by_cases h7 : j 0 = (7 : Fin 8); · exact here 7 _ h7
  rw [skip 7 _ h7]
  by_cases h6 : j 0 = (6 : Fin 8); · exact here 6 _ h6
  rw [skip 6 _ h6]
  by_cases h5 : j 0 = (5 : Fin 8); · exact here 5 _ h5
  rw [skip 5 _ h5]
  by_cases h4 : j 0 = (4 : Fin 8); · exact here 4 _ h4
  rw [skip 4 _ h4]
  by_cases h3 : j 0 = (3 : Fin 8); · exact here 3 _ h3
  rw [skip 3 _ h3]
  by_cases h2 : j 0 = (2 : Fin 8); · exact here 2 _ h2
  rw [skip 2 _ h2]
  by_cases h1 : j 0 = (1 : Fin 8); · exact here 1 _ h1
  rw [skip 1 _ h1]
  refine here 0 _ (Fin.ext ?_)
  have hlt : (j 0).val < 8 := (j 0).isLt
  have n7 : (j 0).val ≠ 7 := fun e => h7 (Fin.ext e)
  have n6 : (j 0).val ≠ 6 := fun e => h6 (Fin.ext e)
  have n5 : (j 0).val ≠ 5 := fun e => h5 (Fin.ext e)
  have n4 : (j 0).val ≠ 4 := fun e => h4 (Fin.ext e)
  have n3 : (j 0).val ≠ 3 := fun e => h3 (Fin.ext e)
  have n2 : (j 0).val ≠ 2 := fun e => h2 (Fin.ext e)
  have n1 : (j 0).val ≠ 1 := fun e => h1 (Fin.ext e)
  show (j 0).val = 0
  omega

end Eight

/-! ## The body's output -/

section Output
variable (c : Dev nD) (XS : Buf (Elt F) (supM.view.loc (c : Thread nD τ)))
  (arg1 : Memref sig .tc .vmem S8x2048x256 .f32) (arg2 : Memref sig .tc .vmem S256x256 .f32) (arg3 : Memref sig .tc .vmem S1x256 .f32)
  (arg4 : Memref sig .tc .vmem S8x2048x1 .f32) (arg5 : Memref sig .tc .vmem S8x2048x1 .f32)
  (arg7 : Memref sig .tc .vmem S8x2048x256 .f32) (arg8 : Memref sig .tc .vmem S8x2048x512 .bf16)
  (g1 : Buf (Elt F) (arg1.view.loc (c : Thread nD τ))) (g2 : Buf (Elt F) (arg2.view.loc (c : Thread nD τ))) (g3 : Buf (Elt F) (arg3.view.loc (c : Thread nD τ)))
  (g4 : Buf (Elt F) (arg4.view.loc (c : Thread nD τ))) (gO : Buf (Elt F) (arg5.view.loc (c : Thread nD τ)))

theorem ldW_eq : ldW c arg2 g2 = arg2.view.read (Elt F) g2 := View.readAt_full _ _ _
theorem ldB_eq : ldB c arg3 g3 = arg3.view.read (Elt F) g3 := View.readAt_full _ _ _

theorem projBuf_read : arg7.view.read (Elt F) (projBuf c arg1 arg2 arg3 arg7 g1 g2 g3)
    = projV (arg1.view.read (Elt F) g1) (arg2.view.read (Elt F) g2) (arg3.view.read (Elt F) g3) := by
  unfold projBuf
  refine (read_eight c arg7 _ (fun n => k0_pay5 (ldX c arg1 g1 n) (ldW c arg2 g2) (ldB c arg3 g3)) (fun n => batch_inb n)).trans ?_
  funext j
  unfold projV
  rw [ldW_eq, ldB_eq]
  exact congrArg (fun v => k0_pay5 v _ _ _) (readAt_batch c arg1 g1 (j 0) rfl _)

theorem augBuf_read : arg8.view.read (Elt F) (augBuf c arg1 arg2 arg3 arg4 arg8 g1 g2 g3 g4)
    = augV (arg1.view.read (Elt F) g1) (arg2.view.read (Elt F) g2) (arg3.view.read (Elt F) g3) (arg4.view.read (Elt F) g4) := by
  unfold augBuf
  refine (read_eight c arg8 _ (fun n => k0_pay6 (ldX c arg1 g1 n) (ldW c arg2 g2) (ldB c arg3 g3) (ldM c arg4 g4 n)) (fun n => batch_inb n)).trans ?_
  funext j
  unfold augV
  rw [ldW_eq, ldB_eq]
  exact congrArg₂ (fun v u => k0_pay6 v _ _ u _) (readAt_batch c arg1 g1 (j 0) rfl _) (readAt_batch c arg4 g4 (j 0) rfl _)

theorem tripOut_eq (k : Trip) :
    tripOut c XS arg4 arg7 arg8 g4 (projBuf c arg1 arg2 arg3 arg7 g1 g2 g3) (augBuf c arg1 arg2 arg3 arg4 arg8 g1 g2 g3 g4) k
      = rowsV (supM.view.read (Elt F) XS) (arg1.view.read (Elt F) g1) (arg2.view.read (Elt F) g2) (arg3.view.read (Elt F) g3) (arg4.view.read (Elt F) g4)
          ⟨k.val, trip_lt k⟩ := by
  have hk := trip_lt k
  unfold tripOut rowsV
  rw [slab_eq, readAt_rows c arg7 _ ⟨k.val, hk⟩ (off6_eq k), readAt_rows c arg4 _ ⟨k.val, hk⟩ (off7_eq k),
    readAt_batch c arg8 _ ⟨k.val / 8, by omega⟩ (off9_eq k), projBuf_read, augBuf_read]

/-- After the first `n` trips the rows of those trips hold their results. -/
theorem outAcc_read (n : ℕ) (hn : n ≤ k0_t1_loop.trips) (j : S8x2048x1.Idx) (hj : (j 0).val * 8 + (j 1).val / 256 < n) :
    arg5.view.read (Elt F) (outAcc c XS arg4 arg5 arg7 arg8 g4 (projBuf c arg1 arg2 arg3 arg7 g1 g2 g3) (augBuf c arg1 arg2 arg3 arg4 arg8 g1 g2 g3 g4) gO n) j
      = outV (supM.view.read (Elt F) XS) (arg1.view.read (Elt F) g1) (arg2.view.read (Elt F) g2) (arg3.view.read (Elt F) g3) (arg4.view.read (Elt F) g4) j := by
  induction n with
  | zero => omega
  | succ n ih =>
    have h1 : (j 1).val < 2048 := (j 1).isLt
    have h2 : (j 2).val < 1 := (j 2).isLt
    rw [outAcc_succ c XS arg4 arg5 arg7 arg8 g4 _ _ gO (⟨n, hn⟩ : Trip)]
    by_cases hlast : (j 0).val * 8 + (j 1).val / 256 = n
    · refine (View.read_writes_cons_unit_of_mem arg5.view _ _ _ [] j
        (ix3 (0 : Fin 1) (⟨(j 1).val % 256, by omega⟩ : Fin 256) (j 2)) (off7_eq ⟨n, hn⟩) fun x => ?_).trans ?_
      · match x with
        | ⟨0, _⟩ => show (j 0).val = n / 8 + 0; omega
        | ⟨1, _⟩ => show (j 1).val = n % 8 * 256 + (j 1).val % 256; omega
        | ⟨2, _⟩ => show (j 2).val = 0 + (j 2).val; omega
      · rw [tripOut_eq]
        unfold outV
        simp only [hlast]
        rfl
    · refine Eq.trans ?_ (ih (by omega) (by omega))
      by_cases hb : (j 0).val = n / 8
      · refine View.read_writes_cons_unit_of_not_mem arg5.view _ _ _ [] j (off7_eq ⟨n, hn⟩) (1 : Fin 3) ?_
        show (j 1).val < n % 8 * 256 ∨ n % 8 * 256 + 256 ≤ (j 1).val
        omega
      · refine View.read_writes_cons_unit_of_not_mem arg5.view _ _ _ [] j (off7_eq ⟨n, hn⟩) (0 : Fin 3) ?_
        show (j 0).val < n / 8 ∨ n / 8 + 1 ≤ (j 0).val
        omega

/-- What the body leaves in the output's staging buffer reads as the function of what its inputs read as. -/
theorem outBuf_read : arg5.view.read (Elt F) (outBuf c XS arg1 arg2 arg3 arg4 arg5 arg7 arg8 g1 g2 g3 g4 gO)
    = outV (supM.view.read (Elt F) XS) (arg1.view.read (Elt F) g1) (arg2.view.read (Elt F) g2) (arg3.view.read (Elt F) g3) (arg4.view.read (Elt F) g4) := by
  funext j
  unfold outBuf
  refine outAcc_read c XS arg1 arg2 arg3 arg4 arg5 arg7 arg8 g1 g2 g3 g4 gO _ le_rfl j ?_
  have h0 : (j 0).val < 8 := (j 0).isLt
  have h1 : (j 1).val < 2048 := (j 1).isLt
  rw [trips_eq]
  omega

end Output

end Cert.Proof.Tau

end
-- ==== Proof.Launch.lean ====
/-
  The launch: `support` as its 64 tiles, the ring buffer as its eight slots, the pipeline's proof data at its one
  grid point, the run of @main. The result array ends at the function of `Out` of the argument arrays.
-/
module

public import proofs.«01_k».proof.Proof.Out
public import proofs.«01_k».proof.Proof.Gen.KernelIdeal.Frame
public import Idealize.ShloMosaic.Lib.Pipeline.ValueKit

@[expose] public section

set_option maxRecDepth 16384

noncomputable section

namespace Cert.Proof.Tau

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ
variable (m : (ℓ : Loc nD τ sig) → Buf (Elt F) ℓ) (ρ : Dev nD → PrngReg)

/-! ## The ring's cells -/

/-- The kernel's own semaphores are the eight slots' cells. -/
abbrev osem : Fin 8 → SemLoc sig := fun s => .dma (cell s).sem
theorem ownSemFacts : Pipeline.OwnSemFacts spec0 osem := by decide

/-! ## Element sets: `support`'s tiles, the buffer's slots -/

abbrev tileSet (b : Fin 64) : Finset S8x2048x2048.Idx := (Rect.unit (s := S8x2048x2048) (tileOff b) S1x256x2048.size (tileOff_inb b)).set
abbrev slotSet (s : Fin 8) : Finset S8x256x2048.Idx := (Rect.unit (s := S8x256x2048) (slotOff s) S1x256x2048.size (slotOff_inb s)).set

theorem tile_set (b : Fin 64) : (tile b).view.set = tileSet b := (View.set_reshape _ _).trans (View.set_slice_whole _ _)
theorem slot_set (s : Fin 8) : (slot s).view.set = slotSet s := (View.set_reshape _ _).trans (View.set_slice_whole _ _)

theorem mem_tileSet (b : Fin 64) (y : S8x2048x2048.Idx) : y ∈ tileSet b ↔ (y 0).val * 8 + (y 1).val / 256 = b.val := by
  rw [Rect.mem_set_unit]
  have h1 : (y 1).val < 2048 := (y 1).isLt
  have h2 : (y 2).val < 2048 := (y 2).isLt
  constructor
  · intro H
    have a0 : b.val / 8 ≤ (y 0).val ∧ (y 0).val < b.val / 8 + 1 := H 0
    have a1 : b.val % 8 * 256 ≤ (y 1).val ∧ (y 1).val < b.val % 8 * 256 + 256 := H 1
    omega
  · intro H i
    match i with
    | ⟨0, _⟩ => show b.val / 8 ≤ (y 0).val ∧ (y 0).val < b.val / 8 + 1; omega
    | ⟨1, _⟩ => show b.val % 8 * 256 ≤ (y 1).val ∧ (y 1).val < b.val % 8 * 256 + 256; omega
    | ⟨2, _⟩ => show 0 ≤ (y 2).val ∧ (y 2).val < 0 + 2048; omega
theorem mem_slotSet (s : Fin 8) (y : S8x256x2048.Idx) : y ∈ slotSet s ↔ (y 0).val = s.val := by
  rw [Rect.mem_set_unit]
  have h1 : (y 1).val < 256 := (y 1).isLt
  have h2 : (y 2).val < 2048 := (y 2).isLt
  constructor
  · intro H
    have a0 : s.val ≤ (y 0).val ∧ (y 0).val < s.val + 1 := H 0
    omega
  · intro H i
    match i with
    | ⟨0, _⟩ => show s.val ≤ (y 0).val ∧ (y 0).val < s.val + 1; omega
    | ⟨1, _⟩ => show 0 ≤ (y 1).val ∧ (y 1).val < 0 + 256; omega
    | ⟨2, _⟩ => show 0 ≤ (y 2).val ∧ (y 2).val < 0 + 2048; omega
theorem tileSet_disjoint : ∀ b b' : Fin 64, b ≠ b' → Disjoint (tileSet b) (tileSet b') := by
  intro b b' hne; rw [Finset.disjoint_left]; intro y hy hy'; rw [mem_tileSet] at hy hy'; exact hne (Fin.ext (hy.symm.trans hy'))
theorem tileSet_cover : (Finset.univ : Finset (Fin 64)).biUnion tileSet = Finset.univ := by
  ext y
  have h0 : (y 0).val < 8 := (y 0).isLt
  have h1 : (y 1).val < 2048 := (y 1).isLt
  simp only [Finset.mem_biUnion, Finset.mem_univ, true_and, iff_true]
  exact ⟨⟨(y 0).val * 8 + (y 1).val / 256, by omega⟩, by rw [mem_tileSet]⟩
theorem slotSet_disjoint : ∀ s s' : Fin 8, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 8)).biUnion slotSet = Finset.univ := by
  ext y
  have h0 : (y 0).val < 8 := (y 0).isLt
  simp only [Finset.mem_biUnion, Finset.mem_univ, true_and, iff_true]
  exact ⟨⟨(y 0).val, h0⟩, by rw [mem_slotSet]⟩

/-- `support` as the region finds it. -/
abbrev XS (c : Dev nD) : Buf (Elt F) (supM.view.loc (c : Thread nD τ)) := V m c main_arg1

/-- `support` whole is its tiles home. -/
theorem sup_eq (c : Dev nD) :
    (((c : Thread nD τ).loc main_arg1) ↦{fullShare} V m c main_arg1 : sProp 𝕄) = bigSep Finset.univ (homeP c (XS m c)) := by
  rw [Ring.pointsTo_blocks (ℓ := (c : Thread nD τ).loc main_arg1) tileSet tileSet_disjoint tileSet_cover]
  exact bigSep_congr fun b _ => by rw [← tile_set]; rfl

omit [FloatOps F] in
theorem slotP_eq (c : Dev nD) (s : Fin 8) (f) : slotP c s f = (((c : Thread nD τ).loc cc0_scratch0) ↦[slotSet s]{fullShare} f : sProp 𝕄) :=
  congrArg (fun S => (_ ↦[S]{fullShare} f : sProp 𝕄)) (slot_set s)
/-- The buffer whole is its slots, each at some contents, and back. -/
theorem ring_split (c : Dev nD) :
    iprop(∃ f : Buf (Elt F) ((c : Thread nD τ).loc cc0_scratch0), ((c : Thread nD τ).loc cc0_scratch0) ↦{fullShare} f)
      ⊢ (bigSep Finset.univ (fun s : Fin 8 => iprop(∃ f, slotP c s f)) : sProp 𝕄) := by
  iintro ⟨%f, H⟩
  ihave H2 := (of_eq (Ring.pointsTo_blocks (Ix := Unit) (Name := ℕ) (U := UU nD τ) (Lvl := ℕ) (q := fullShare) (ℓ := (c : Thread nD τ).loc cc0_scratch0) slotSet slotSet_disjoint slotSet_cover f)) $$ H
  have h1 (s : Fin 8) : (((c : Thread nD τ).loc cc0_scratch0) ↦[slotSet s]{fullShare} f : sProp 𝕄) ⊢ iprop(∃ f, slotP c s f) := by
    iintro H
    iexists f
    iapply (of_eq (slotP_eq c s f).symm); iexact H
  have hm : (bigSep Finset.univ fun s : Fin 8 => (((c : Thread nD τ).loc cc0_scratch0) ↦[slotSet s]{fullShare} f : sProp 𝕄))
      ⊢ (bigSep Finset.univ (fun s : Fin 8 => iprop(∃ f, slotP c s f)) : sProp 𝕄) := bigSep_mono fun s _ => h1 s
  iapply hm $$ H2
theorem ring_join (c : Dev nD) :
    (bigSep Finset.univ (fun s : Fin 8 => iprop(∃ f, slotP c s f)) : sProp 𝕄)
      ⊢ iprop(∃ f : Buf (Elt F) ((c : Thread nD τ).loc cc0_scratch0), ((c : Thread nD τ).loc cc0_scratch0) ↦{fullShare} f) := by
  have h1 (s : Fin 8) : (iprop(∃ f, slotP c s f) : sProp 𝕄) ⊢ iprop(∃ f, ((c : Thread nD τ).loc cc0_scratch0) ↦[slotSet s]{fullShare} f) := by
    iintro ⟨%f, H⟩
    iexists f
    iapply (of_eq (slotP_eq c s f)); iexact H
  iintro H
  iapply (Ring.pointsTo_blocks_join_exists (ℓ := (c : Thread nD τ).loc cc0_scratch0) slotSet slotSet_disjoint slotSet_cover (View.junk ringM.view))
  have hm : (bigSep Finset.univ (fun s : Fin 8 => iprop(∃ f, slotP c s f)) : sProp 𝕄)
      ⊢ (bigSep Finset.univ fun s : Fin 8 => iprop(∃ f, ((c : Thread nD τ).loc cc0_scratch0) ↦[slotSet s]{fullShare} f)) := bigSep_mono fun s _ => h1 s
  iapply hm $$ H
/-- A scratch array held through its memref is the array's own points-to. -/
theorem held_xs (c : Dev nD) :
    (iprop(∃ f, heldP c (Memref.whole cc0_scratch1) f) : sProp 𝕄)
      = iprop(∃ f : Buf (Elt F) ((c : Thread nD τ).loc cc0_scratch1), ((c : Thread nD τ).loc cc0_scratch1) ↦{fullShare} f) := by
  unfold heldP
  rw [show (Memref.whole cc0_scratch1).view.set = Finset.univ from View.set_whole cc0_scratch1]
theorem held_xa (c : Dev nD) :
    (iprop(∃ f, heldP c (Memref.whole cc0_scratch2) f) : sProp 𝕄)
      = iprop(∃ f : Buf (Elt F) ((c : Thread nD τ).loc cc0_scratch2), ((c : Thread nD τ).loc cc0_scratch2) ↦{fullShare} f) := by
  unfold heldP
  rw [show (Memref.whole cc0_scratch2).view.set = Finset.univ from View.set_whole cc0_scratch2]

/-- The slots and the kernel's own cells are the free slots. -/
theorem free_eq (c : Dev nD) :
    (bigSep Finset.univ (freeP (F := F) c) : sProp 𝕄)
      = iprop(bigSep Finset.univ (fun s : Fin 8 => iprop(∃ f, slotP c s f)) ∗ Pipeline.ownSems0 osem c) := by
  unfold Pipeline.ownSems0
  exact bigSep_sep _ _ _

/-! ## The pipeline's proof data -/

/-- The region invariant, the same before and after the one point: the tiles home, the slots free, the two scratch
    arrays at anything. -/
def Φ (c : Dev nD) : sProp 𝕄 :=
  iprop(bigSep Finset.univ (homeP c (XS m c)) ∗ bigSep Finset.univ (freeP (F := F) c)
    ∗ (∃ g7, heldP c (Memref.whole cc0_scratch1) g7) ∗ ∃ g8, heldP c (Memref.whole cc0_scratch2) g8)

/-- The output block: the function of `Out` of the other windows' blocks and of `support`. -/
def outAt (c : Dev nD) (t : Fin cfg0.N) : (cfg0.win 4).block.Idx → Elt F (cfg0.win 4).elt :=
  outV (supM.view.read (Elt F) (XS m c)) (iblk m c 0 t) (iblk m c 1 t) (iblk m c 2 t) (iblk m c 3 t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Φ m c
  q _ := fullShare
  owed _ := 0

theorem before_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

/-! ## The body obligation -/

abbrev bodyP (t : Fin cfg0.N) : Prog (TpuEff nD τ sig (Elt F) Λ₀ .tc) PUnit :=
  bodyG (st0_0 t) (hstage0_0 0) (st0_1 t) (hstage0_1 0) (st0_2 t) (hstage0_2 0) (st0_3 t) (hstage0_3 0) (st0_4 t) (hstage0_4 0)
    (Memref.whole cc0_scratch1) (Memref.isWhole_whole _) (Memref.whole cc0_scratch2) (Memref.isWhole_whole _)

/-- The body table's entry is the kernel on the point's staging memrefs. -/
theorem defs_tc : (defs₀ (F := F)) .tc cfg0.body
    = fun a => bodyG (win0_0.stage (a.2 0)) (hstage0_0 0) (win0_1.stage (a.2 1)) (hstage0_1 0) (win0_2.stage (a.2 2)) (hstage0_2 0)
        (win0_3.stage (a.2 3)) (hstage0_3 0) (win0_4.stage (a.2 4)) (hstage0_4 0)
        (Memref.whole cc0_scratch1) (Memref.isWhole_whole _) (Memref.whole cc0_scratch2) (Memref.isWhole_whole _) := rfl
theorem prog_eq (t : Fin cfg0.N) : (defs₀ (F := F)) .tc cfg0.body (cfg0.bodyArgs t (cfg0.slots t)) = bodyP t :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_0, before_1, before_2, before_3, after_0, after_1, after_2, after_3, after_4]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨Hh, Hf, H7, H8⟩, ⟨%W, -, HW⟩, ⟨%d0, %g0, %h0, H0⟩, ⟨%d1, %g1, %h1, H1⟩, ⟨%d2, %g2, %h2, H2⟩, ⟨%d3, %g3, %h3, H3⟩, ⟨%d4, %gO, -, H4⟩⟩
  sl_rw [prog_eq t]
  iapply (body_run c (XS m c) (st0_0 t) (hstage0_0 0) (st0_1 t) (hstage0_1 0) (st0_2 t) (hstage0_2 0) (st0_3 t) (hstage0_3 0) (st0_4 t) (hstage0_4 0)
    (Memref.whole cc0_scratch1) (Memref.isWhole_whole _) (Memref.whole cc0_scratch2) (Memref.isWhole_whole _) g0 g1 g2 g3 gO W)
  isplitl [H0 H1 H2 H3 H4 H7 H8 HW Hh Hf]
  · isplitl [H0]; · iexact H0
    isplitl [H1]; · iexact H1
    isplitl [H2]; · iexact H2
    isplitl [H3]; · iexact H3
    isplitl [H4]; · iexact H4
    isplitl [H7]; · iexact H7
    isplitl [H8]; · iexact H8
    isplitl [HW]; · iexact HW
    isplitl [Hh]; · iexact Hh
    iexact Hf
  · iintro ⟨H0, H1, H2, H3, H4, H7, H8, ⟨%W', HW⟩, Hh, Hf⟩
    isplitl [Hh Hf H7 H8]
    · isplitl [Hh]; · iexact Hh
      isplitl [Hf]; · iexact Hf
      isplitl [H7]; · iexact H7
      iexact H8
    isplitl [HW]
    · iexists W'; isplitr; · ipureintro; exact fun _ _ => Or.inl trivial
      iexact HW
    isplitl [H0]; · iexists g0; isplitr; · ipureintro; exact h0
                    iexact H0
    isplitl [H1]; · iexists g1; isplitr; · ipureintro; exact h1
                    iexact H1
    isplitl [H2]; · iexists g2; isplitr; · ipureintro; exact h2
                    iexact H2
    isplitl [H3]; · iexists g3; isplitr; · ipureintro; exact h3
                    iexact H3
    iexists _; isplitr
    · ipureintro
      refine (outBuf_read c (XS m c) (st0_0 t) (st0_1 t) (st0_2 t) (st0_3 t) (st0_4 t) (Memref.whole cc0_scratch1) (Memref.whole cc0_scratch2) g0 g1 g2 g3 gO).trans ?_
      rw [h0, h1, h2, h3]; rfl
    iexact H4

/-! ## The run -/

def intoΦ (c : Dev nD) : sProp 𝕄 := iprop(bigSep Finset.univ (homeP c (XS m c)) ∗ Pipeline.ownSems0 osem c)
def outOfΦ (c : Dev nD) : sProp 𝕄 := ((c : Thread nD τ).loc main_arg1) ↦{fullShare} V m c main_arg1
def restΦ (c : Dev nD) : sProp 𝕄 := ((c : Thread nD τ).loc main_arg4) ↦{fullShare} V m c main_arg4
def u₀ : UU nD τ := (initOf (Pipeline.cells cfgs cellOf_inj) (Pipeline.launchToks cfgs cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg1) = V m c main_arg1 ∧ s.mem ((c : Thread nD τ).loc main_arg4) = V m c main_arg4
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
/-- From any memory with zero counters every weakly fair execution of @main terminates; the result array ends at
    the computed contents, the arguments unchanged, every counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := restΦ m)
    (hX := fun c => by
      rw [unscopedRest0_eq, sup_eq m c]
      unfold intoΦ restΦ
      iintro ⟨⟨H1, H4⟩, HS, -, -, -⟩; imodintro
      isplitl [H1 HS]
      · isplitl [H1]; · iexact H1
        iexact HS
      iexact H4)
    (hin := fun c => by
      rw [scopedRest0_eq, show (dats m 0 c).Φ 0 = Φ m c from rfl]
      unfold intoΦ Φ; rw [free_eq, held_xs, held_xa]
      iintro ⟨⟨H1, HS⟩, Hb, H7, H8⟩
      ihave Hs := (ring_split c) $$ Hb
      isplitl [H1]; · iexact H1
      isplitl [Hs HS]
      · isplitl [Hs]; · iexact Hs
        iexact HS
      isplitl [H7]; · iexact H7
      iexact H8)
    (hout := fun c => by
      rw [scopedRest0_eq, show (dats m 0 c).Φ (Fin.last cfg0.N) = Φ m c from rfl]
      unfold Φ outOfΦ; rw [free_eq, ← sup_eq m c, held_xs, held_xa]
      iintro ⟨H1, ⟨Hs, HS⟩, H7, H8⟩
      isplitl [H1]; · iexact H1
      isplitl [HS]; · iexact HS
      isplitl [Hs]; · iapply (ring_join c); iexact Hs
      isplitl [H7]; · iexact H7
      iexact H8)
    (QY := QY m)
    (hY := fun c s' => by
      unfold outOfΦ restΦ
      iintro ⟨H1, H4, HSI⟩
      icombine HSI H1 gives %h1
      icombine HSI H4 gives %h4
      imodintro
      isplitr; · ipureintro; exact ⟨Buf.eq_of_forall_mem_univ h1, Buf.eq_of_forall_mem_univ h4⟩
      iexact HSI)
    (hQ := fun _ hh hz => ⟨hh, hz⟩)

/-! ## What memory holds at the end -/

theorem finalA_in (c : Dev nD) (w : Fin cfg0.W) (hw : (cfg0.win w).isOut = false) : finalA m c w = V m c (Pipeline.arrRef spec0 w) :=
  (dats (F := F) m 0 c).arrAt_in w hw _

/-- An input window's block is its whole array. -/
theorem iblk_0 (c : Dev nD) (t : Fin cfg0.N) : iblk m c 0 t = V m c main_arg0 := by
  funext y; unfold iblk; blk_simp; congr 1; funext a; apply Fin.ext; fin_cases a <;> blk_simp <;> first | rfl | exact Nat.zero_add _ | (simp only [Nat.add_eq_right]; rfl)
theorem iblk_1 (c : Dev nD) (t : Fin cfg0.N) : iblk m c 1 t = V m c main_arg3 := by
  funext y; unfold iblk; blk_simp; congr 1; funext a; apply Fin.ext; fin_cases a <;> blk_simp <;> first | rfl | exact Nat.zero_add _ | (simp only [Nat.add_eq_right]; rfl)
theorem iblk_2 (c : Dev nD) (t : Fin cfg0.N) : iblk m c 2 t = V m c main_v0 := by
  funext y; unfold iblk; blk_simp; congr 1; funext a; apply Fin.ext; fin_cases a <;> blk_simp <;> first | rfl | exact Nat.zero_add _ | (simp only [Nat.add_eq_right]; rfl)
theorem iblk_3 (c : Dev nD) (t : Fin cfg0.N) : iblk m c 3 t = V m c main_arg2 := by
  funext y; unfold iblk; blk_simp; congr 1; funext a; apply Fin.ext; fin_cases a <;> blk_simp <;> first | rfl | exact Nat.zero_add _ | (simp only [Nat.add_eq_right]; rfl)

/-- The result: the function of `Out` of `support`, `features`, `W`, the row of `b` and the mask. -/
def resV (c : Dev nD) : Buf (Elt F) ((c : Thread nD τ).loc main_v1) :=
  outV (m ((c : Thread nD τ).loc main_arg1)) (m ((c : Thread nD τ).loc main_arg0)) (m ((c : Thread nD τ).loc main_arg3))
    (shapeCast S1x256 (m ((c : Thread nD τ).loc main_arg4)) shapeCasts_S256_S1x256) (m ((c : Thread nD τ).loc main_arg2))

theorem V_main_v0 (c : Dev nD) : V m c main_v0 = shapeCast S1x256 (m ((c : Thread nD τ).loc main_arg4)) shapeCasts_S256_S1x256 := by
  entry_read; rfl

theorem finalA_out (c : Dev nD) : finalA m c 4 = resV m c := by
  refine (dats (F := F) m 0 c).arrAt_eq_of_covers 4 (resV m c) (by decide +kernel) fun t hf y => ?_
  rw [after_4]
  unfold outAt resV
  rw [iblk_0, iblk_1, iblk_2, iblk_3, V_main_arg0, V_main_arg3, V_main_v0, V_main_arg2, XS, V_main_arg1]
  blk_simp
  refine congrArg (outV _ _ _ _ _) (Eq.symm ?_)
  funext a; apply Fin.ext; fin_cases a <;> blk_simp <;> first | rfl | exact Nat.zero_add _ | (simp only [Nat.add_eq_right]; rfl)

end Cert.Proof.Tau

end
-- ==== Proof.Run.lean ====
/-
  The run of @main in the certificate's words: the result array, the five arguments, the counters. The kernel and
  its ideal reading are the same program text, so the run, which holds in every arithmetic, is both programs'.
-/
module

public import proofs.«01_k».proof.Defs
public import proofs.«01_k».proof.Proof.Launch
public import proofs.«01_k».proof.Proof.Gen.Kernel

@[expose] public section

set_option maxRecDepth 65536

noncomputable section

namespace Cert.Proof.Tau

open Idealize.ShloMosaic Idealize.ShloMosaic.TcCoe Idealize.SL Idealize.SL.Sem

variable {F : FTy → Type} [FloatOps F]

section Ideal
open Cert.KernelIdeal Cert.KernelIdeal.Gen

/-- What every execution ends in: the result at `resV`, the arguments as they were, the counters at zero. -/
def Ends (m : (ℓ : Loc nD τ sig) → Buf (Elt F) ℓ) (s : MemSt nD τ sig (Elt F)) : Prop :=
  (∀ c : Dev nD, s.mem ((c : Thread nD τ).loc main_v1) = resV m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.sem = fun _ => 0

/-- The run of the ideal reading's text, in any arithmetic. -/
theorem run (m : (ℓ : Loc nD τ sig) → Buf (Elt F) ℓ) (g : Dev nD → PrngReg) :
    θ_run (defs (F := F)) (onTc (τ := τ) (main (F := F))) ⟨m, fun _ => 0, g⟩ (fun r => Ends m r.2) :=
  (θ_run defs _ _).mono (fun r h => ⟨fun c => ⟨
      ((h.1 c).1 4).trans (finalA_out m c),
      (((h.1 c).1 0).trans (finalA_in m c 0 rfl)).trans (V_main_arg0 m c),
      (h.1 c).2.1.trans (V_main_arg1 m c),
      (((h.1 c).1 3).trans (finalA_in m c 3 rfl)).trans (V_main_arg2 m c),
      (((h.1 c).1 1).trans (finalA_in m c 1 rfl)).trans (V_main_arg3 m c),
      (h.1 c).2.2.trans (V_main_arg4 m c)⟩, h.2⟩) (run_main m g)

end Ideal

/-- The two texts have the same body table. -/
theorem defs₀_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

theorem defs_same : Cert.Kernel.defs (F := F) = Cert.KernelIdeal.defs (F := F) := by
  unfold Cert.Kernel.defs Cert.KernelIdeal.defs
  exact congrArg (Pipeline.defs (Cert.KernelIdeal.pcfgs (F := F))) defs₀_same

/-- The same @main. -/
theorem main_same : Cert.Kernel.main (F := F) = Cert.KernelIdeal.main (F := F) := rfl

/-- The run of the kernel's own text. -/
theorem run_kernel (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => Ends m r.2) := by
  rw [defs_same, main_same]
  exact run m g

theorem frame_kernel : Cert.quiescent_Kernel := fun m g _ =>
  (θ_run _ _ _).mono (fun r h => ⟨fun c => (h.1 c).2, h.2⟩) (run_kernel (F := Bits) m g)

theorem frame_ideal : Cert.quiescent_KernelIdeal := fun m g _ =>
  (θ_run _ _ _).mono (fun r h => ⟨fun c => (h.1 c).2, h.2⟩) (run (F := Ideal) m g)

end Cert.Proof.Tau

end
-- ==== Proof.RowValue.lean ====
/-
  The kernel's arithmetic read at one index over the extended reals: the projected features, the augmented features
  (the projected ones, their squared norms and a one, all times the mask), and a trip's rows of the output.
-/
module

public import proofs.«01_k».proof.Proof.Out
public import Idealize.ShloMosaic.Lib.Pointwise

@[expose] public section

noncomputable section

namespace Cert.Proof.Tau

open Cert.KernelIdeal Cert.KernelIdeal.Gen
open Idealize.ShloMosaic

section Pays
variable (x : FVec Ideal S1x2048x256 .f32) (w : FVec Ideal S256x256 .f32) (b : FVec Ideal S1x256 .f32) (mk : FVec Ideal S1x2048x1 .f32)

theorem pay4_at (n : Fin 2048) (e : Fin 256) :
    k0_pay4 (F := Ideal) x w b (ix2 n e) = max (∑ d : Fin 256, x (ix3 0 n d) * w (ix2 d e) + b (ix2 0 e)) 0 := by
  pointwise [k0_pay4]

theorem pay5_at (z : Fin 1) (n : Fin 2048) (e : Fin 256) :
    k0_pay5 (F := Ideal) x w b (ix3 z n e) = k0_pay4 (F := Ideal) x w b (ix2 n e) := by
  pointwise [k0_pay5]

theorem pay6_at (z : Fin 1) (n : Fin 2048) (e : Fin 512) :
    k0_pay6 (F := Ideal) x w b mk (ix3 z n e)
      = (if h : e.val < 256 then k0_pay4 (F := Ideal) x w b (ix2 n ⟨e.val, h⟩)
          else Scalar.select (IntOp.cmpi .eq (BitVec.ofNat 32 (e.val - 256)) 0#32)
            (∑ d : Fin 256, k0_pay4 (F := Ideal) x w b (ix2 n d) * k0_pay4 (F := Ideal) x w b (ix2 n d))
            (Scalar.select (IntOp.cmpi .eq (BitVec.ofNat 32 (e.val - 256)) 1#32) 1 0)) * mk (ix3 0 n 0) := by
  pointwise [k0_pay6]

/-- The first 256 columns: the projected features, masked. -/
theorem pay6_feat (z : Fin 1) (n : Fin 2048) (e : Fin 512) (he : e.val < 256) :
    k0_pay6 (F := Ideal) x w b mk (ix3 z n e) = k0_pay4 (F := Ideal) x w b (ix2 n ⟨e.val, he⟩) * mk (ix3 0 n 0) := by
  rw [pay6_at, dif_pos he]

/-- Column 256: the squared norms, masked. -/
theorem pay6_norm (z : Fin 1) (n : Fin 2048) :
    k0_pay6 (F := Ideal) x w b mk (ix3 z n 256)
      = (∑ d : Fin 256, k0_pay4 (F := Ideal) x w b (ix2 n d) * k0_pay4 (F := Ideal) x w b (ix2 n d)) * mk (ix3 0 n 0) := by
  rw [pay6_at, dif_neg (by decide)]
  exact congrArg (· * _) (Scalar.select_of_eq_one (by decide) _ _)

/-- Column 257: the mask itself. -/
theorem pay6_mask (z : Fin 1) (n : Fin 2048) :
    k0_pay6 (F := Ideal) x w b mk (ix3 z n 257) = mk (ix3 0 n 0) := by
  rw [pay6_at, dif_neg (by decide), Scalar.select_of_eq_zero (by decide), Scalar.select_of_eq_one (by decide)]
  exact one_mul _

end Pays

/-- A row of a trip's result. -/
theorem pay3_at (v : FVec Ideal S256x256 .f32) (mk : FVec Ideal S1x256x1 .f32) (s : FVec Ideal S1x256x2048 .f32)
    (a : FVec Ideal S1x2048x512 .bf16) (z : Fin 1) (r : Fin 256) (q : Fin 1) :
    k0_pay3 (F := Ideal) v mk s a (ix3 z r q)
      = Ideal.tanh (Ideal.div
          (mk (ix3 0 r 0) *
            ((∑ e : Fin 256, v (ix2 r e) * v (ix2 r e)) * (∑ j : Fin 2048, (if 0 < s (ix3 0 r j) then 1 else 0) * a (ix3 0 j 257))
              + ∑ j : Fin 2048, (if 0 < s (ix3 0 r j) then 1 else 0) * a (ix3 0 j 256)
              - Ideal.ofBits .f32 0x40000000#32 *
                ∑ e : Fin 256, v (ix2 r e) * ∑ j : Fin 2048, (if 0 < s (ix3 0 r j) then 1 else 0) * a (ix3 0 j ⟨e.val, by omega⟩)))
          (max (mk (ix3 0 r 0) * ∑ j : Fin 2048, (if 0 < s (ix3 0 r j) then 1 else 0) * a (ix3 0 j 257)) 1)) := by
  pointwise [k0_pay3]

theorem pay2_at (v : FVec Ideal S1x256x256 .f32) (r e : Fin 256) : k0_pay2 (F := Ideal) v (ix2 r e) = v (ix3 0 r e) := by
  pointwise [k0_pay2]

/-! ## The output -/

section Whole
variable (S : FVec Ideal S8x2048x2048 .f32) (X : FVec Ideal S8x2048x256 .f32) (W : FVec Ideal S256x256 .f32)
  (B : FVec Ideal S1x256 .f32) (M : FVec Ideal S8x2048x1 .f32)

/-- The projected features of row `i` of batch `n`. -/
def feat (n : Fin 8) (i : Fin 2048) (e : Fin 256) : EReal :=
  max (∑ d : Fin 256, X (ix3 n i d) * W (ix2 d e) + B (ix2 0 e)) 0

/-- One where row `i` of batch `n` has an edge to row `j`, zero elsewhere. -/
def edge (n : Fin 8) (i j : Fin 2048) : EReal := if 0 < S (ix3 n i j) then 1 else 0

theorem pay4_batch (n : Fin 8) (i : Fin 2048) (e : Fin 256) :
    k0_pay4 (F := Ideal) (batchOf X n) W B (ix2 i e) = feat X W B n i e := by
  rw [pay4_at]
  rfl

theorem projV_at (n : Fin 8) (i : Fin 2048) (e : Fin 256) :
    projV (F := Ideal) X W B (ix3 n i e) = feat X W B n i e := by
  show k0_pay5 (F := Ideal) (batchOf X n) W B (ValueIdx.ix3 0 i e) = _
  rw [← ix3_eq_valueIdx, pay5_at, pay4_batch]

theorem augV_feat (n : Fin 8) (i : Fin 2048) (e : Fin 512) (he : e.val < 256) :
    augV (F := Ideal) X W B M (ix3 n i e) = feat X W B n i ⟨e.val, he⟩ * M (ix3 n i 0) := by
  show k0_pay6 (F := Ideal) (batchOf X n) W B (batchOf M n) (ValueIdx.ix3 0 i e) = _
  rw [← ix3_eq_valueIdx, pay6_feat _ _ _ _ _ _ _ he, pay4_batch]
  rfl

theorem augV_norm (n : Fin 8) (i : Fin 2048) :
    augV (F := Ideal) X W B M (ix3 n i 256) = (∑ d : Fin 256, feat X W B n i d * feat X W B n i d) * M (ix3 n i 0) := by
  show k0_pay6 (F := Ideal) (batchOf X n) W B (batchOf M n) (ValueIdx.ix3 0 i 256) = _
  rw [← ix3_eq_valueIdx, pay6_norm]
  exact congrArg (· * M (ix3 n i 0)) (Finset.sum_congr rfl fun d _ => by rw [pay4_batch])

theorem augV_mask (n : Fin 8) (i : Fin 2048) : augV (F := Ideal) X W B M (ix3 n i 257) = M (ix3 n i 0) := by
  show k0_pay6 (F := Ideal) (batchOf X n) W B (batchOf M n) (ValueIdx.ix3 0 i 257) = _
  rw [← ix3_eq_valueIdx, pay6_mask]
  rfl

/-- Row `r` of trip `k`, of batch `n` and row `i` of it. -/
theorem rowsOf_at {α : Type} {e : ℕ} (Y : (⟨3, ![8, 2048, e]⟩ : Shape).Idx → α) (k : Fin 64) (r : Fin 256) (q : Fin e)
    (n : Fin 8) (i : Fin 2048) (hn : k.val / 8 = n.val) (hi : k.val % 8 * 256 + r.val = i.val) :
    rowsOf Y k (ix3 0 r q) = Y (ix3 n i q) := by
  have e1 : (⟨k.val / 8, by omega⟩ : Fin 8) = n := Fin.ext hn
  have e2 : (⟨k.val % 8 * 256 + r.val, by omega⟩ : Fin 2048) = i := Fin.ext hi
  show Y (ValueIdx.ix3 (⟨k.val / 8, _⟩ : Fin 8) (⟨k.val % 8 * 256 + r.val, _⟩ : Fin 2048) q) = _
  rw [← ix3_eq_valueIdx, e1, e2]

/-- **The kernel's result at one row.** -/
theorem outV_at (n : Fin 8) (i : Fin 2048) (q : Fin 1) :
    outV (F := Ideal) S X W B M (ix3 n i q)
      = Ideal.tanh (Ideal.div
          (M (ix3 n i 0) *
            ((∑ e : Fin 256, feat X W B n i e * feat X W B n i e) * (∑ j : Fin 2048, edge S n i j * M (ix3 n j 0))
              + ∑ j : Fin 2048, edge S n i j * ((∑ d : Fin 256, feat X W B n j d * feat X W B n j d) * M (ix3 n j 0))
              - Ideal.ofBits .f32 0x40000000#32 *
                ∑ e : Fin 256, feat X W B n i e * ∑ j : Fin 2048, edge S n i j * (feat X W B n j e * M (ix3 n j 0))))
          (max (M (ix3 n i 0) * ∑ j : Fin 2048, edge S n i j * M (ix3 n j 0)) 1)) := by
  have hk : n.val * 8 + i.val / 256 < 64 := by omega
  have hr : i.val % 256 < 256 := by omega
  show rowsV (F := Ideal) S X W B M ⟨n.val * 8 + i.val / 256, _⟩ (ValueIdx.ix3 0 ⟨i.val % 256, _⟩ q) = _
  generalize hk' : (⟨n.val * 8 + i.val / 256, hk⟩ : Fin 64) = k
  generalize hr' : (⟨i.val % 256, hr⟩ : Fin 256) = r
  have kv : k.val = n.val * 8 + i.val / 256 := by rw [← hk']
  have rv : r.val = i.val % 256 := by rw [← hr']
  have hn : k.val / 8 = n.val := by omega
  have hi : k.val % 8 * 256 + r.val = i.val := by omega
  have en : (⟨k.val / 8, by omega⟩ : Fin 8) = n := Fin.ext hn
  have hv (e : Fin 256) : k0_pay2 (F := Ideal) (rowsOf (projV (F := Ideal) X W B) k) (ix2 r e) = feat X W B n i e := by
    rw [pay2_at, rowsOf_at _ k r e n i hn hi, projV_at]
  have hm : rowsOf M k (ix3 0 r 0) = M (ix3 n i 0) := rowsOf_at M k r 0 n i hn hi
  have hs (j : Fin 2048) : (if 0 < rowsOf S k (ix3 0 r j) then (1 : EReal) else 0) = edge S n i j := by
    rw [rowsOf_at S k r j n i hn hi]; rfl
  have ha (j : Fin 2048) (e : Fin 512) : batchOf (augV (F := Ideal) X W B M) n (ix3 0 j e) = augV (F := Ideal) X W B M (ix3 n j e) := by
    show augV (F := Ideal) X W B M (ValueIdx.ix3 n j e) = _
    rw [← ix3_eq_valueIdx]
  have hf (j : Fin 2048) (e : Fin 256) : augV (F := Ideal) X W B M (ix3 n j ⟨e.val, by omega⟩) = feat X W B n j e * M (ix3 n j 0) :=
    augV_feat X W B M n j ⟨e.val, by omega⟩ e.isLt
  unfold rowsV
  rw [← ix3_eq_valueIdx, en, pay3_at]
  simp only [hv, hm, hs, ha, hf, augV_norm, augV_mask]

end Whole

end Cert.Proof.Tau

end
-- ==== Proof.RefValue.lean ====
/-
  The two references read at one index over the extended reals. They share everything after the projection (`tailT`);
  the first contracts the features with the rows of `W`, the second with its columns.
-/
module

public import proofs.«01_k».proof.Defs
public import proofs.«01_k».proof.Proof.Gen.ReferenceIdeal
public import proofs.«01_k».proof.Proof.Gen.ReferenceIdeal.Run
public import proofs.«01_k».proof.Proof.Gen.ReferenceWIdeal
public import proofs.«01_k».proof.Proof.Gen.ReferenceWIdeal.Run
public import Idealize.ShloMosaic.Lib.Pointwise

@[expose] public section

noncomputable section

namespace Cert.Proof.Tau

open Idealize.ShloMosaic Idealize.ShloMosaic.TcCoe Idealize.SL.Sem

section Tail
open Cert.ReferenceIdeal Cert.ReferenceIdeal.Gen

/-- The masked adjacency. -/
def adjT (S : FVec Ideal S8x2048x2048 .f32) (M : FVec Ideal S8x2048x1 .f32) : FVec Ideal S8x2048x2048 .f32 :=
  mulf (uitofp .f32 (cmpf .ogt S (broadcastInDim S8x2048x2048 ![] bcast_S_S8x2048x2048 (constant S_ .f32 0x00000000#32))))
    (mulf
      (broadcastInDim S8x2048x2048 ![0, 1, 2] bcast_S8x2048x1_S8x2048x2048_0_1_2
        (broadcastInDim S8x2048x1 ![0, 1] bcast_S8x2048_S8x2048x1_0_1 (shapeCast _ M shapeCasts_S8x2048x1_S8x2048)))
      (broadcastInDim S8x2048x2048 ![0, 1, 2] bcast_S8x1x2048_S8x2048x2048_0_1_2
        (broadcastInDim S8x1x2048 ![0, 2] bcast_S8x2048_S8x1x2048_0_2 (shapeCast _ M shapeCasts_S8x2048x1_S8x2048))))

/-- The number of neighbours of each row, each neighbour counted at the product of the two masks. -/
def countT (A : FVec Ideal S8x2048x2048 .f32) : FVec Ideal S8x2048 .f32 :=
  Host.reduceAdd A (constant S_ .f32 0x00000000#32) reducesTo_S8x2048x2048_S8x2048_d2 h_S_

/-- Each row's sum of products with another array's. -/
def innerT (X Y : FVec Ideal S8x2048x256 .f32) : FVec Ideal S8x2048 .f32 :=
  Host.reduceAdd (mulf X Y) (constant S_ .f32 0x00000000#32) reducesTo_S8x2048x256_S8x2048_d2 h_S_

/-- The score from the masked adjacency and the projected features. -/
def tailT (A : FVec Ideal S8x2048x2048 .f32) (X : FVec Ideal S8x2048x256 .f32) : FVec Ideal S8x2048x1 .f32 :=
  broadcastInDim S8x2048x1 ![0, 1] bcast_S8x2048_S8x2048x1_0_1 (Host.tanh (Host.divf
    (maximumf
      (subf
        (addf (mulf (countT A) (innerT X X)) (Host.dotGeneral dot_S8x2048x2048_S8x2048_S8x2048_2_1_1_n_0_0 none A (innerT X X)))
        (mulf (broadcastInDim S8x2048 ![] bcast_S_S8x2048 (constant S_ .f32 0x40000000#32))
          (innerT X (Host.dotGeneral dot_S8x2048x2048_S8x2048x256_S8x2048x256_2_1_1_2_0_0 none A X))))
      (broadcastInDim S8x2048 ![] bcast_S_S8x2048 (constant S_ .f32 0x00000000#32)))
    (maximumf (countT A) (broadcastInDim S8x2048 ![] bcast_S_S8x2048 (constant S_ .f32 0x3F800000#32)))))

/-- The projection, along the rows of `W`. -/
def projT (X : FVec Ideal S8x2048x256 .f32) (W : FVec Ideal S256x256 .f32) (B : FVec Ideal S256 .f32) : FVec Ideal S8x2048x256 .f32 :=
  maximumf
    (addf (Host.dotGeneral dot_S8x2048x256_S256x256_S8x2048x256_2_1_01_0_n_n none X W)
      (broadcastInDim S8x2048x256 ![0, 1, 2] bcast_S1x1x256_S8x2048x256_0_1_2 (broadcastInDim S1x1x256 ![2] bcast_S256_S1x1x256_2 B)))
    (broadcastInDim S8x2048x256 ![] bcast_S_S8x2048x256 (constant S_ .f32 0x00000000#32))

set_option maxRecDepth 65536 in
theorem res_eq (m : (ℓ : Loc nD τ sig) → Buf (Elt Ideal) ℓ) (c : Dev nD) :
    Value.res_main_v33 (F := Ideal) m c
      = tailT (adjT (m ((c.tc : Thread nD τ).loc main_arg1)) (m ((c.tc : Thread nD τ).loc main_arg2)))
          (projT (m ((c.tc : Thread nD τ).loc main_arg0)) (m ((c.tc : Thread nD τ).loc main_arg3)) (m ((c.tc : Thread nD τ).loc main_arg4))) := rfl

variable (S : FVec Ideal S8x2048x2048 .f32) (M : FVec Ideal S8x2048x1 .f32) (A : FVec Ideal S8x2048x2048 .f32)
  (X Y : FVec Ideal S8x2048x256 .f32) (W : FVec Ideal S256x256 .f32) (B : FVec Ideal S256 .f32)

theorem adjT_at (n : Fin 8) (i j : Fin 2048) :
    adjT S M (ix3 n i j) = (if 0 < S (ix3 n i j) then 1 else 0) * (M (ix3 n i 0) * M (ix3 n j 0)) := by
  pointwise [adjT]
  refine congrArg (· * _) ?_
  show (((BitVec.ofBool (decide (0 < S (ix3 n i j)))).toNat : ℝ) : EReal) = _
  by_cases h : 0 < S (ix3 n i j) <;> simp [h]

theorem countT_at (n : Fin 8) (i : Fin 2048) : countT A (ix2 n i) = ∑ j : Fin 2048, A (ix3 n i j) := by
  pointwise [countT]

theorem innerT_at (n : Fin 8) (i : Fin 2048) : innerT X Y (ix2 n i) = ∑ e : Fin 256, X (ix3 n i e) * Y (ix3 n i e) := by
  pointwise [innerT]

theorem projT_at (n : Fin 8) (i : Fin 2048) (e : Fin 256) :
    projT X W B (ix3 n i e) = max (∑ d : Fin 256, X (ix3 n i d) * W (ix2 e d) + B (ix1 e)) 0 := by
  pointwise [projT]

/-- **A reference's result at one row.** -/
theorem tailT_at (n : Fin 8) (i : Fin 2048) (q : Fin 1) :
    tailT A X (ix3 n i q)
      = Ideal.tanh (Ideal.div
          (max
            ((∑ j : Fin 2048, A (ix3 n i j)) * (∑ e : Fin 256, X (ix3 n i e) * X (ix3 n i e))
              + ∑ j : Fin 2048, A (ix3 n i j) * (∑ e : Fin 256, X (ix3 n j e) * X (ix3 n j e))
              - Ideal.ofBits .f32 0x40000000#32 *
                ∑ e : Fin 256, X (ix3 n i e) * ∑ j : Fin 2048, A (ix3 n i j) * X (ix3 n j e)) 0)
          (max (∑ j : Fin 2048, A (ix3 n i j)) 1)) := by
  pointwise [tailT, countT_at, innerT_at]

end Tail

section Columns
open Cert.ReferenceWIdeal Cert.ReferenceWIdeal.Gen

/-- The projection, along the columns of `W`. -/
def projC (X : FVec Ideal S8x2048x256 .f32) (W : FVec Ideal S256x256 .f32) (B : FVec Ideal S256 .f32) : FVec Ideal S8x2048x256 .f32 :=
  maximumf
    (addf (Host.dotGeneral dot_S8x2048x256_S256x256_S8x2048x256_2_0_01_1_n_n none X W)
      (broadcastInDim S8x2048x256 ![0, 1, 2] bcast_S1x1x256_S8x2048x256_0_1_2 (broadcastInDim S1x1x256 ![2] bcast_S256_S1x1x256_2 B)))
    (broadcastInDim S8x2048x256 ![] bcast_S_S8x2048x256 (constant S_ .f32 0x00000000#32))

set_option maxRecDepth 65536 in
theorem resW_eq (m : (ℓ : Loc nD τ sig) → Buf (Elt Ideal) ℓ) (c : Dev nD) :
    Value.res_main_v33 (F := Ideal) m c
      = tailT (adjT (m ((c.tc : Thread nD τ).loc main_arg1)) (m ((c.tc : Thread nD τ).loc main_arg2)))
          (projC (m ((c.tc : Thread nD τ).loc main_arg0)) (m ((c.tc : Thread nD τ).loc main_arg3)) (m ((c.tc : Thread nD τ).loc main_arg4))) := rfl

theorem projC_at (X : FVec Ideal S8x2048x256 .f32) (W : FVec Ideal S256x256 .f32) (B : FVec Ideal S256 .f32)
    (n : Fin 8) (i : Fin 2048) (e : Fin 256) :
    projC X W B (ix3 n i e) = max (∑ d : Fin 256, X (ix3 n i d) * W (ix2 d e) + B (ix1 e)) 0 := by
  pointwise [projC]

end Columns

/-! ## The references' frames -/

/-- The reference leaves its arguments as they were; it declares no semaphore. -/
theorem frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

/-- So does the second. -/
theorem frame_referenceW : Cert.quiescent_ReferenceWIdeal := fun m g _ =>
  (θ_run Cert.ReferenceWIdeal.defs _ _).mono
    (fun r h => ⟨fun c => (h c).2, sem_eq_zero_of_no_sems (by decide) r.2⟩) (Cert.ReferenceWIdeal.Value.run (F := Ideal) m g)

end Cert.Proof.Tau

end
-- ==== Proof.Math.lean ====
/-
  The mathematics: the sum of squared distances over a row's neighbours, written as the kernel writes it and as the
  references write it, first over the reals and then over the extended reals, where every quantity is a real.
-/
module

public import Idealize.ShloMosaic.PureOps.Ideal
public import Mathlib.Tactic.Ring
public import Mathlib.Tactic.Positivity
public import Mathlib.Tactic.NormNum

@[expose] public section

noncomputable section

namespace Cert.Proof.Tau

open Idealize.ShloMosaic

/-! ## Over the reals -/

section Reals
variable {ι ε : Type} [Fintype ι] [Fintype ε]

/-- The squared norm of one row. -/
def sq (x : ε → ℝ) : ℝ := ∑ e, x e * x e

/-- The references' numerator, before the clamp: weights `w`, the row's features `x`, the others' `y`. -/
def spread (w : ι → ℝ) (x : ε → ℝ) (y : ι → ε → ℝ) : ℝ :=
  (∑ j, w j) * sq x + ∑ j, w j * sq (y j) - 2 * ∑ e, x e * ∑ j, w j * y j e

/-- It is the weighted sum of squared distances. -/
theorem spread_eq (w : ι → ℝ) (x : ε → ℝ) (y : ι → ε → ℝ) :
    spread w x y = ∑ j, w j * ∑ e, (x e - y j e) * (x e - y j e) := by
  have h (j : ι) : w j * ∑ e, (x e - y j e) * (x e - y j e)
      = w j * sq x + w j * sq (y j) - 2 * ∑ e, x e * (w j * y j e) := by
    unfold sq
    simp only [Finset.mul_sum, ← Finset.sum_add_distrib, ← Finset.sum_sub_distrib]
    exact Finset.sum_congr rfl fun e _ => by ring
  have hx : ∑ e, x e * ∑ j, w j * y j e = ∑ j, ∑ e, x e * (w j * y j e) := by
    simp only [Finset.mul_sum]
    exact Finset.sum_comm
  simp only [h]
  rw [Finset.sum_sub_distrib, Finset.sum_add_distrib, ← Finset.sum_mul, ← Finset.mul_sum, ← hx]
  rfl

/-- So it is not negative where the weights are not. -/
theorem spread_nonneg (w : ι → ℝ) (hw : ∀ j, 0 ≤ w j) (x : ε → ℝ) (y : ι → ε → ℝ) : 0 ≤ spread w x y := by
  rw [spread_eq]
  exact Finset.sum_nonneg fun j _ => mul_nonneg (hw j) (Finset.sum_nonneg fun e _ => mul_self_nonneg _)

/-- The kernel's numerator, which takes the row's own mask out of the sums, is the references'. -/
theorem kernel_num (a m : ι → ℝ) (mi : ℝ) (x : ε → ℝ) (y : ι → ε → ℝ) :
    mi * (sq x * (∑ j, a j * m j) + ∑ j, a j * (sq (y j) * m j) - 2 * ∑ e, x e * ∑ j, a j * (y j e * m j))
      = spread (fun j => a j * (mi * m j)) x y := by
  have h1 : ∑ j, a j * (mi * m j) = mi * ∑ j, a j * m j := by
    rw [Finset.mul_sum]; exact Finset.sum_congr rfl fun j _ => by ring
  have h2 : ∑ j, a j * (mi * m j) * sq (y j) = mi * ∑ j, a j * (sq (y j) * m j) := by
    rw [Finset.mul_sum]; exact Finset.sum_congr rfl fun j _ => by ring
  have h3 : ∑ e, x e * ∑ j, a j * (mi * m j) * y j e = mi * ∑ e, x e * ∑ j, a j * (y j e * m j) := by
    rw [Finset.mul_sum]
    refine Finset.sum_congr rfl fun e _ => ?_
    rw [Finset.mul_sum, Finset.mul_sum, Finset.mul_sum]
    exact Finset.sum_congr rfl fun j _ => by ring
  unfold spread
  rw [h1, h2, h3]
  ring

/-- The kernel's denominator, before the floor of one, likewise. -/
theorem kernel_den (a m : ι → ℝ) (mi : ℝ) : mi * ∑ j, a j * m j = ∑ j, a j * (mi * m j) := by
  rw [Finset.mul_sum]; exact Finset.sum_congr rfl fun j _ => by ring

end Reals

/-! ## Over the extended reals -/

/-- The reals' sum is the extended reals'. -/
theorem coe_sum {ι : Type} [Fintype ι] (f : ι → ℝ) : ((∑ j, f j : ℝ) : EReal) = ∑ j, (f j : EReal) := by
  classical
  exact map_sum (⟨⟨Real.toEReal, EReal.coe_zero⟩, EReal.coe_add⟩ : ℝ →+ EReal) f Finset.univ

/-- The reals' maximum is the extended reals'. -/
theorem coe_max (x y : ℝ) : ((max x y : ℝ) : EReal) = max (x : EReal) (y : EReal) :=
  (EReal.coe_strictMono.monotone.map_max)

/-- The word of `2.0`. -/
theorem ofBits_two : Ideal.ofBits .f32 0x40000000#32 = ((2 : ℝ) : EReal) := by
  simp [Ideal.ofBits, Ideal.ieee]
  rw [← EReal.coe_mul]
  norm_num

/-- A real over a real not zero. -/
theorem div_real (x y : ℝ) (hy : y ≠ 0) : Ideal.div (x : EReal) (y : EReal) = ((x * (1 / y) : ℝ) : EReal) := by
  rw [Ideal.div_coe hy, EReal.coe_mul]

section Rows
variable {ι ε : Type} [Fintype ι] [Fintype ε]

/-- **A row as the kernel computes it is that row as the references do**, where the features and the mask are reals
    and the edges' weights and the mask are not negative. -/
theorem row_eq (a m : ι → ℝ) (mi : ℝ) (x : ε → ℝ) (y : ι → ε → ℝ) (ha : ∀ j, 0 ≤ a j) (hm : ∀ j, 0 ≤ m j) (hmi : 0 ≤ mi) :
    Ideal.tanh (Ideal.div
        ((mi : EReal) * ((∑ e, (x e : EReal) * x e) * (∑ j, (a j : EReal) * m j)
          + ∑ j, (a j : EReal) * ((∑ e, (y j e : EReal) * y j e) * m j)
          - Ideal.ofBits .f32 0x40000000#32 * ∑ e, (x e : EReal) * ∑ j, (a j : EReal) * ((y j e : EReal) * m j)))
        (max ((mi : EReal) * ∑ j, (a j : EReal) * m j) 1))
      = Ideal.tanh (Ideal.div
        (max ((∑ j, (a j : EReal) * ((mi : EReal) * m j)) * (∑ e, (x e : EReal) * x e)
          + ∑ j, (a j : EReal) * ((mi : EReal) * m j) * (∑ e, (y j e : EReal) * y j e)
          - Ideal.ofBits .f32 0x40000000#32 * ∑ e, (x e : EReal) * ∑ j, (a j : EReal) * ((mi : EReal) * m j) * y j e) 0)
        (max (∑ j, (a j : EReal) * ((mi : EReal) * m j)) 1)) := by
  rw [ofBits_two, ← EReal.coe_zero, ← EReal.coe_one]
  simp only [← EReal.coe_mul, ← coe_sum, ← EReal.coe_add, ← EReal.coe_sub, ← coe_max]
  have hn := kernel_num a m mi x y
  have hd := kernel_den a m mi
  have h0 := spread_nonneg (fun j => a j * (mi * m j)) (fun j => mul_nonneg (ha j) (mul_nonneg hmi (hm j))) x y
  unfold spread sq at h0
  unfold spread sq at hn
  rw [hn, hd, max_eq_left h0]

/-- A number that is not negative, times a sum of such, is the sum of the products: no term is the bottom. -/
theorem mul_sum_nonneg (c : EReal) (hc : 0 ≤ c) (f : ι → EReal) (hf : ∀ j, 0 ≤ f j) : c * ∑ j, f j = ∑ j, c * f j := by
  classical
  induction (Finset.univ : Finset ι) using Finset.induction_on with
  | empty => simp
  | insert j s hj ih =>
    rw [Finset.sum_insert hj, Finset.sum_insert hj, EReal.left_distrib_of_nonneg (hf j) (Finset.sum_nonneg fun k _ => hf k), ih]

/-- Over the top everything is zero. -/
theorem div_top (x : EReal) : Ideal.div x ⊤ = 0 := by
  unfold Ideal.div
  rw [if_neg (by simp), EReal.inv_top, mul_zero]

/-- **The same with any mask that is not negative**, infinity included. Where the count is infinite both quotients are
    zero; where it is finite, a neighbour's mask is a real unless the row's own mask is zero, and then both numerators
    are. -/
theorem row_all (a m : ι → EReal) (mi : EReal) (x : ε → ℝ) (y : ι → ε → ℝ) (ha : ∀ j, a j = 0 ∨ a j = 1) (hm : ∀ j, 0 ≤ m j)
    (hmi : 0 ≤ mi) :
    Ideal.tanh (Ideal.div
        (mi * ((∑ e, (x e : EReal) * x e) * (∑ j, a j * m j)
          + ∑ j, a j * ((∑ e, (y j e : EReal) * y j e) * m j)
          - Ideal.ofBits .f32 0x40000000#32 * ∑ e, (x e : EReal) * ∑ j, a j * ((y j e : EReal) * m j)))
        (max (mi * ∑ j, a j * m j) 1))
      = Ideal.tanh (Ideal.div
        (max ((∑ j, a j * (mi * m j)) * (∑ e, (x e : EReal) * x e)
          + ∑ j, a j * (mi * m j) * (∑ e, (y j e : EReal) * y j e)
          - Ideal.ofBits .f32 0x40000000#32 * ∑ e, (x e : EReal) * ∑ j, a j * (mi * m j) * y j e) 0)
        (max (∑ j, a j * (mi * m j)) 1)) := by
  have ha0 (j : ι) : 0 ≤ a j := by rcases ha j with h | h <;> simp [h]
  have hd : mi * ∑ j, a j * m j = ∑ j, a j * (mi * m j) := by
    rw [mul_sum_nonneg mi hmi _ fun j => mul_nonneg (ha0 j) (hm j)]
    exact Finset.sum_congr rfl fun j _ => mul_left_comm _ _ _
  by_cases htop : ∑ j, a j * (mi * m j) = ⊤
  · rw [hd, htop, max_eq_left le_top, div_top, div_top]
  have hfin (j : ι) : a j * (mi * m j) ≠ ⊤ := fun e =>
    htop (top_le_iff.1 (e ▸ Finset.single_le_sum (f := fun j => a j * (mi * m j))
      (fun k _ => mul_nonneg (ha0 k) (mul_nonneg hmi (hm k))) (Finset.mem_univ j)))
  rcases hmi.eq_or_lt with h0 | hpos
  · subst h0
    simp
  by_cases hit : mi = ⊤
  · -- every neighbour's mask is zero
    have hz (j : ι) : a j = 0 ∨ m j = 0 := by
      rcases ha j with h | h
      · exact .inl h
      · refine .inr (le_antisymm (not_lt.1 fun hp => hfin j ?_) (hm j))
        rw [h, one_mul, hit, EReal.top_mul_of_pos hp]
    have e1 (j : ι) : a j * m j = 0 := by rcases hz j with h | h <;> simp [h]
    have e2 (j : ι) (v : EReal) : a j * (v * m j) = 0 := by rcases hz j with h | h <;> simp [h]
    simp [e1, e2]
  · lift mi to ℝ using ⟨hit, (lt_of_le_of_lt bot_le hpos).ne'⟩
    have hr (j : ι) : ∃ r : ℝ, 0 ≤ r ∧ (a j = 0 ∨ m j = (r : EReal)) := by
      rcases ha j with h | h
      · exact ⟨0, le_rfl, .inl h⟩
      · have hmt : m j ≠ ⊤ := fun e => hfin j (by rw [h, one_mul, e, EReal.mul_top_of_pos hpos])
        have hmb : m j ≠ ⊥ := fun e => by have := hm j; rw [e] at this; simp at this
        exact ⟨(m j).toReal, EReal.toReal_nonneg (hm j), .inr (EReal.coe_toReal hmt hmb).symm⟩
    choose r hr0 hr using hr
    have ha' (j : ι) : ∃ t : ℝ, 0 ≤ t ∧ a j = (t : EReal) := by
      rcases ha j with h | h
      · exact ⟨0, le_rfl, by simp [h]⟩
      · exact ⟨1, zero_le_one, by simp [h]⟩
    choose t ht0 ht using ha'
    have e1 (j : ι) : a j * m j = (t j : EReal) * r j := by rw [← ht]; rcases hr j with h | h <;> simp [h]
    have e2 (j : ι) (v : EReal) : a j * (v * m j) = (t j : EReal) * (v * r j) := by rw [← ht]; rcases hr j with h | h <;> simp [h]
    simp only [e1, e2]
    exact row_eq t r mi x y ht0 hr0 (EReal.coe_nonneg.1 hmi)

end Rows

end Cert.Proof.Tau

end
-- ==== Proof.Pre.lean ====
/-
  The preconditions opened: what each says of the arguments, element by element.
-/
module

public import proofs.«01_k».proof.Defs
public import proofs.«01_k».proof.Proof.Gen.Pre_proper
public import proofs.«01_k».proof.Proof.Gen.Pre_proper_symmetric
public import proofs.«01_k».proof.Proof.Gen.Pre_one_edge
public import Idealize.ShloMosaic.Lib.Pointwise
public import Idealize.ShloMosaic.Lib.ReduceAll
public import Idealize.ShloMosaic.Lib.Affine

@[expose] public section

noncomputable section

namespace Cert.Proof.Tau

open Idealize.ShloMosaic

abbrev SX : Shape := ⟨3, ![8, 2048, 256]⟩
abbrev SS : Shape := ⟨3, ![8, 2048, 2048]⟩
abbrev SM : Shape := ⟨3, ![8, 2048, 1]⟩
abbrev SW : Shape := ⟨2, ![256, 256]⟩
abbrev SB : Shape := ⟨1, ![256]⟩

/-- Every element is a real. -/
def Finite {s : Shape} (X : FVec Ideal s .f32) : Prop := ∀ i, ∃ r : ℝ, X i = (r : EReal)

/-! ## Single words -/

theorem top_word : Ideal.ofBits .f32 0x7F800000#32 = ⊤ := by simp [Ideal.ofBits, Ideal.ieee]

theorem cmp_olt {x y : EReal} (h : Ideal.cmp .olt x y = 1#1) : x < y := by
  by_contra hn
  simp [Ideal.cmp, hn] at h

theorem cmp_oge {x y : EReal} (h : Ideal.cmp .oge x y = 1#1) : y ≤ x := by
  by_contra hn
  simp [Ideal.cmp, hn] at h

theorem cmp_oeq {x y : EReal} (h : Ideal.cmp .oeq x y = 1#1) : x = y := by
  by_contra hn
  simp [Ideal.cmp, hn] at h

/-- An extended real of absolute value below the top is a real. -/
theorem real_of_abs {x : EReal} (h : max x (-x) < ⊤) : ∃ r : ℝ, x = (r : EReal) := by
  refine ⟨x.toReal, (EReal.coe_toReal ?_ ?_).symm⟩
  · rintro rfl; simp at h
  · rintro rfl; simp at h

/-! ## The predicates -/

/-- What `proper` says. -/
structure Proper (X : FVec Ideal SX .f32) (M : FVec Ideal SM .f32) (W : FVec Ideal SW .f32) (B : FVec Ideal SB .f32) : Prop where
  features : Finite X
  weights : Finite W
  bias : ∀ i, B i < ⊤
  mask : ∀ i, 0 ≤ M i

section Open
variable (X : FVec Ideal SX .f32) (S : FVec Ideal SS .f32) (M : FVec Ideal SM .f32) (W : FVec Ideal SW .f32) (B : FVec Ideal SB .f32)

theorem proper_of_pre (h : Cert.Pre_proper.fn (F := Ideal) X S M W B = fun _ => 1#1) : Proper X M W B := by
  have e := congrFun h (fun a => a.elim0)
  dsimp only [Cert.Pre_proper.fn, Cert.Pre_proper.fn_part1, andi] at e
  obtain ⟨e, eM⟩ := IntOp.andi_eq_one.1 e
  obtain ⟨e, eB⟩ := IntOp.andi_eq_one.1 e
  obtain ⟨eX, eW⟩ := IntOp.andi_eq_one.1 e
  refine ⟨fun i => ?_, fun i => ?_, fun i => ?_, fun i => ?_⟩
  · have q := cmp_olt (Host.reduce_andi_all _ _ _ _ _ eX i)
    exact real_of_abs (q.trans_eq top_word)
  · have q := cmp_olt (Host.reduce_andi_all _ _ _ _ _ eW i)
    exact real_of_abs (q.trans_eq top_word)
  · have q := cmp_olt (Host.reduce_andi_all _ _ _ _ _ eB i)
    exact q.trans_eq top_word
  · have q := cmp_oge (Host.reduce_andi_all _ _ _ _ _ eM i)
    exact Ideal.ofBits_zero_f32.symm.trans_le q

theorem symmetric_of_pre (h : Cert.Pre_proper_symmetric.fn (F := Ideal) X S M W B = fun _ => 1#1) :
    Proper X M W B ∧ ∀ d e : Fin 256, W (ix2 d e) = W (ix2 e d) := by
  have e := congrFun h (fun a => a.elim0)
  dsimp only [Cert.Pre_proper_symmetric.fn, Cert.Pre_proper_symmetric.fn_part1, andi] at e
  obtain ⟨e, eT⟩ := IntOp.andi_eq_one.1 e
  obtain ⟨e, eM⟩ := IntOp.andi_eq_one.1 e
  obtain ⟨e, eB⟩ := IntOp.andi_eq_one.1 e
  obtain ⟨eX, eW⟩ := IntOp.andi_eq_one.1 e
  refine ⟨⟨fun i => ?_, fun i => ?_, fun i => ?_, fun i => ?_⟩, fun d e => ?_⟩
  · have q := cmp_olt (Host.reduce_andi_all _ _ _ _ _ eX i)
    exact real_of_abs (q.trans_eq top_word)
  · have q := cmp_olt (Host.reduce_andi_all _ _ _ _ _ eW i)
    exact real_of_abs (q.trans_eq top_word)
  · have q := cmp_olt (Host.reduce_andi_all _ _ _ _ _ eB i)
    exact q.trans_eq top_word
  · have q := cmp_oge (Host.reduce_andi_all _ _ _ _ _ eM i)
    exact Ideal.ofBits_zero_f32.symm.trans_le q
  · have q := cmp_oeq (Host.reduce_andi_all _ _ _ _ _ eT (ix2 d e))
    refine q.trans ?_
    pointwise

/-- What `one_edge` says: one at a single index of the features, of `W` and of `support`, and zero elsewhere; no bias;
    a mask of ones. -/
structure OneEdge : Prop where
  features : ∀ n i d, X (ix3 n i d) = if n = 0 ∧ i = 0 ∧ d = 0 then 1 else 0
  weights : ∀ d e, W (ix2 d e) = if d = 0 ∧ e = 1 then 1 else 0
  bias : ∀ e, B (ix1 e) = 0
  mask : ∀ n i, M (ix3 n i 0) = 1
  support : ∀ n i j, S (ix3 n i j) = if n = 0 ∧ i = 0 ∧ j = 1 then 1 else 0

/-- A coordinate's word equals a literal's exactly when the coordinate is that literal. -/
theorem word_eq {n : ℕ} (hn : n < 2 ^ 32) (k l : Fin n) :
    IntOp.cmpi .eq (BitVec.ofNat 32 k.val) (BitVec.ofNat 32 l.val) = 1#1 ↔ k = l := by
  rw [IntOp.cmpi_eq]
  constructor
  · intro e
    have e' := congrArg BitVec.toNat e
    rw [BitVec.toNat_ofNat, BitVec.toNat_ofNat, Nat.mod_eq_of_lt (by omega), Nat.mod_eq_of_lt (by omega)] at e'
    exact Fin.ext e'
  · rintro rfl; rfl

/-- Three words compared, the third with `l`. -/
theorem select_three {a b c : ℕ} (ha : a < 2 ^ 32) (hb : b < 2 ^ 32) (hc : c < 2 ^ 32) (n n' : Fin a) (i i' : Fin b) (d d' : Fin c) :
    Scalar.select
        (IntOp.andi
          (IntOp.andi (IntOp.cmpi .eq (BitVec.ofNat 32 n.val) (BitVec.ofNat 32 n'.val))
            (IntOp.cmpi .eq (BitVec.ofNat 32 i.val) (BitVec.ofNat 32 i'.val)))
          (IntOp.cmpi .eq (BitVec.ofNat 32 d.val) (BitVec.ofNat 32 d'.val))) (1 : EReal) 0
      = if n = n' ∧ i = i' ∧ d = d' then 1 else 0 := by
  rw [Scalar.select_def]
  exact if_congr (by rw [show (1 : BitVec 1) = 1#1 from rfl, IntOp.andi_eq_one, IntOp.andi_eq_one, word_eq ha, word_eq hb, word_eq hc, and_assoc]) rfl rfl

/-- Two words compared. -/
theorem select_two {a b : ℕ} (ha : a < 2 ^ 32) (hb : b < 2 ^ 32) (n n' : Fin a) (i i' : Fin b) :
    Scalar.select
        (IntOp.andi (IntOp.cmpi .eq (BitVec.ofNat 32 n.val) (BitVec.ofNat 32 n'.val))
          (IntOp.cmpi .eq (BitVec.ofNat 32 i.val) (BitVec.ofNat 32 i'.val))) (1 : EReal) 0
      = if n = n' ∧ i = i' then 1 else 0 := by
  rw [Scalar.select_def]
  exact if_congr (by rw [show (1 : BitVec 1) = 1#1 from rfl, IntOp.andi_eq_one, word_eq ha, word_eq hb]) rfl rfl

theorem oneEdge_of_pre (h : Cert.Pre_one_edge.fn (F := Ideal) X S M W B = fun _ => 1#1) : OneEdge X S M W B := by
  have e := congrFun h (fun a => a.elim0)
  dsimp only [Cert.Pre_one_edge.fn, Cert.Pre_one_edge.fn_part1, Cert.Pre_one_edge.fn_part2, andi] at e
  obtain ⟨e, eS⟩ := IntOp.andi_eq_one.1 e
  obtain ⟨e, eM⟩ := IntOp.andi_eq_one.1 e
  obtain ⟨e, eB⟩ := IntOp.andi_eq_one.1 e
  obtain ⟨eX, eW⟩ := IntOp.andi_eq_one.1 e
  refine ⟨fun n i d => ?_, fun d e => ?_, fun e => ?_, fun n i => ?_, fun n i j => ?_⟩
  · have q := cmp_oeq (Host.reduce_andi_all _ _ _ _ _ eX (ix3 n i d))
    rw [q]
    clear q
    clear eX eW eB eM eS
    pointwise [id_eq, Cert.Pre_one_edge.fn_where]
    exact select_three (by decide) (by decide) (by decide) n 0 i 0 d 0
  · have q := cmp_oeq (Host.reduce_andi_all _ _ _ _ _ eW (ix2 d e))
    rw [q]
    clear q
    clear eX eW eB eM eS
    pointwise [id_eq, Cert.Pre_one_edge.fn_where_0]
    exact select_two (by decide) (by decide) d 0 e 1
  · have q := cmp_oeq (Host.reduce_andi_all _ _ _ _ _ eB (ix1 e))
    rw [q]
    pointwise
  · have q := cmp_oeq (Host.reduce_andi_all _ _ _ _ _ eM (ix3 n i 0))
    rw [q]
    pointwise
  · have q := cmp_oeq (Host.reduce_andi_all _ _ _ _ _ eS (ix3 n i j))
    rw [q]
    clear q
    clear eX eW eB eM eS
    pointwise [id_eq, Cert.Pre_one_edge.fn_where_1]
    exact select_three (by decide) (by decide) (by decide) n 0 i 0 j 1

end Open

end Cert.Proof.Tau

end
-- ==== Proof.Value.lean ====
/-
  The kernel's result is the references', array for array: for the second reference under `proper`, for the first where
  `W` moreover equals its transpose.
-/
module

public import proofs.«01_k».proof.Proof.RowValue
public import proofs.«01_k».proof.Proof.RefValue
public import proofs.«01_k».proof.Proof.Math
public import proofs.«01_k».proof.Proof.Pre
public import proofs.«01_k».proof.Proof.Run

@[expose] public section

noncomputable section

namespace Cert.Proof.Tau

open Idealize.ShloMosaic Idealize.ShloMosaic.TcCoe Idealize.SL.Sem

section Arrays
variable (X : FVec Ideal SX .f32) (S : FVec Ideal SS .f32) (M : FVec Ideal SM .f32) (W : FVec Ideal SW .f32) (B : FVec Ideal SB .f32)

/-- The bias as the kernel is handed it: one row. -/
def biasRow : FVec Ideal ⟨2, ![1, 256]⟩ .f32 := shapeCast Cert.KernelIdeal.S1x256 B Cert.KernelIdeal.Gen.shapeCasts_S256_S1x256

theorem biasRow_at (e : Fin 256) : biasRow B (ix2 0 e) = B (ix1 e) := by
  pointwise [biasRow]

/-- The projected features are reals where the features and `W` are and the bias is below the top; under a bias at the
    bottom the feature is zero. -/
theorem feat_real (hX : Finite X) (hW : Finite W) (hB : ∀ i, B i < ⊤) :
    ∃ x : Fin 8 → Fin 2048 → Fin 256 → ℝ, ∀ n i e, feat X W (biasRow B) n i e = (x n i e : EReal) := by
  choose x hx using hX
  choose w hw using hW
  have one (n : Fin 8) (i : Fin 2048) (e : Fin 256) : ∃ r : ℝ, feat X W (biasRow B) n i e = (r : EReal) := by
    have hs : ∑ d : Fin 256, X (ix3 n i d) * W (ix2 d e) = ((∑ d : Fin 256, x (ix3 n i d) * w (ix2 d e) : ℝ) : EReal) := by
      rw [coe_sum]
      simp only [hx, hw, EReal.coe_mul]
    unfold feat
    rw [biasRow_at, hs]
    by_cases hb : B (ix1 e) = ⊥
    · exact ⟨0, by rw [hb, EReal.add_bot, max_eq_right bot_le, EReal.coe_zero]⟩
    · refine ⟨max (∑ d : Fin 256, x (ix3 n i d) * w (ix2 d e) + (B (ix1 e)).toReal) 0, ?_⟩
      rw [coe_max, EReal.coe_add, EReal.coe_toReal (hB _).ne hb, EReal.coe_zero]
  choose r hr using one
  exact ⟨r, hr⟩

/-- **Array for array**: with any features that are the kernel's, the rest of the two computations agrees. -/
theorem out_eq (h : Proper X M W B) (P : FVec Ideal SX .f32) (hP : ∀ n i e, P (ix3 n i e) = feat X W (biasRow B) n i e) :
    outV (F := Ideal) S X W (biasRow B) M = tailT (adjT S M) P := by
  obtain ⟨x, hx⟩ := feat_real X W B h.features h.weights h.bias
  funext j
  obtain ⟨n, i, q, rfl⟩ : ∃ (n : Fin 8) (i : Fin 2048) (q : Fin 1), j = ix3 n i q := ⟨_, _, _, eq_ix3 j⟩
  rw [outV_at, tailT_at]
  simp only [hP, hx, adjT_at, edge]
  exact row_all _ _ _ _ _ (fun j => (ite_eq_or_eq _ _ _).symm) (fun j => h.mask _) (h.mask _)

end Arrays

/-! ## The claims -/

section Claims

/-- Along the columns of `W` the references' projection is the kernel's. -/
theorem projC_feat (X : FVec Ideal SX .f32) (W : FVec Ideal SW .f32) (B : FVec Ideal SB .f32) (n : Fin 8) (i : Fin 2048) (e : Fin 256) :
    projC X W B (ix3 n i e) = feat X W (biasRow B) n i e := by
  rw [projC_at]
  unfold feat
  rw [biasRow_at]

/-- Along its rows it is where `W` equals its transpose. -/
theorem projT_feat (X : FVec Ideal SX .f32) (W : FVec Ideal SW .f32) (B : FVec Ideal SB .f32) (hW : ∀ d e : Fin 256, W (ix2 d e) = W (ix2 e d))
    (n : Fin 8) (i : Fin 2048) (e : Fin 256) : projT X W B (ix3 n i e) = feat X W (biasRow B) n i e := by
  rw [projT_at]
  unfold feat
  rw [biasRow_at]
  simp only [hW e]

/-- `Cert.algebraic_KernelIdeal_ReferenceWIdeal_pre_proper`. -/
theorem algebraic_columns : Cert.algebraic_KernelIdeal_ReferenceWIdeal_pre_proper := by
  intro m g m' g' hpre hagree
  refine ⟨fun c => resV m c, ?_, ?_⟩
  · exact (θ_run Cert.KernelIdeal.defs _ _).mono (fun r h => h.1) (run (F := Ideal) m g)
  · refine (θ_run Cert.ReferenceWIdeal.defs _ _).mono (fun r h c => ⟨(h c).1.trans ?_, (h c).2⟩) (Cert.ReferenceWIdeal.Value.run (F := Ideal) m' g')
    obtain ⟨a0, a1, a2, a3, a4⟩ := hagree c
    have hp := proper_of_pre _ _ _ _ _ (hpre c)
    rw [resW_eq, a0, a1, a2, a3, a4]
    exact (out_eq _ _ _ _ _ hp _ (projC_feat _ _ _)).symm

/-- `Cert.algebraic_KernelIdeal_ReferenceIdeal_pre_proper_symmetric`. -/
theorem algebraic_rows : Cert.algebraic_KernelIdeal_ReferenceIdeal_pre_proper_symmetric := by
  intro m g m' g' hpre hagree
  refine ⟨fun c => resV m c, ?_, ?_⟩
  · exact (θ_run Cert.KernelIdeal.defs _ _).mono (fun r h => h.1) (run (F := Ideal) m g)
  · refine (θ_run Cert.ReferenceIdeal.defs _ _).mono (fun r h c => ⟨(h c).1.trans ?_, (h c).2⟩) (Cert.ReferenceIdeal.Value.run (F := Ideal) m' g')
    obtain ⟨a0, a1, a2, a3, a4⟩ := hagree c
    obtain ⟨hp, hW⟩ := symmetric_of_pre _ _ _ _ _ (hpre c)
    rw [res_eq, a0, a1, a2, a3, a4]
    exact (out_eq _ _ _ _ _ hp _ (projT_feat _ _ _ hW)).symm

end Claims

end Cert.Proof.Tau

end
-- ==== Proof.OneEdge.lean ====
/-
  The two programs on arguments that tell `W` from its transpose: one feature, one weight off the diagonal, one edge.
  The kernel's first score is `tanh 1`; the reference's is zero.
-/
module

public import proofs.«01_k».proof.Proof.Value
public import proofs.«01_k».proof.Proof.Gen.Post_first_positive
public import proofs.«01_k».proof.Proof.Gen.Post_first_zero

@[expose] public section

noncomputable section

namespace Cert.Proof.Tau

open Idealize.ShloMosaic Idealize.ShloMosaic.TcCoe Idealize.SL.Sem

theorem tanh_one_pos : 0 < Real.tanh 1 := by
  rw [Real.tanh_eq_sinh_div_cosh]
  exact div_pos (Real.sinh_pos_iff.2 one_pos) (Real.cosh_pos 1)

section Values
variable (X : FVec Ideal SX .f32) (S : FVec Ideal SS .f32) (M : FVec Ideal SM .f32) (W : FVec Ideal SW .f32) (B : FVec Ideal SB .f32)
  (h : OneEdge X S M W B)
include h

/-- The kernel sees one projected feature. -/
theorem oneEdge_feat (n : Fin 8) (i : Fin 2048) (e : Fin 256) :
    feat X W (biasRow B) n i e = if n = 0 ∧ i = 0 ∧ e = 1 then 1 else 0 := by
  unfold feat
  rw [biasRow_at, h.bias]
  simp only [h.features, h.weights, add_zero]
  rw [Finset.sum_eq_single (0 : Fin 256) (fun d _ hd => by simp [hd]) (fun hd => absurd (Finset.mem_univ _) hd)]
  by_cases hn : n = 0 <;> by_cases hi : i = 0 <;> by_cases he : e = 1 <;> simp [hn, hi, he]

/-- The reference sees none. -/
theorem oneEdge_proj (n : Fin 8) (i : Fin 2048) (e : Fin 256) : projT X W B (ix3 n i e) = 0 := by
  rw [projT_at, h.bias]
  simp only [h.features, h.weights, add_zero]
  rw [Finset.sum_eq_zero fun d _ => ?_, max_self]
  by_cases hd : d = 0
  · subst hd; simp
  · simp [hd]

/-- The kernel's first score. -/
theorem oneEdge_kernel : outV (F := Ideal) S X W (biasRow B) M (ix3 0 0 0) = ((Real.tanh 1 : ℝ) : EReal) := by
  have hs (j : Fin 2048) : edge S 0 0 j = if j = 1 then 1 else 0 := by
    unfold edge
    rw [h.support]
    by_cases hj : j = 1 <;> simp [hj]
  rw [outV_at]
  simp only [hs, h.mask, oneEdge_feat X S M W B h]
  have hd : Ideal.div (1 : EReal) 1 = ((1 : ℝ) : EReal) := by
    have q := div_real 1 1 one_ne_zero
    rwa [EReal.coe_one, one_div_one, mul_one, EReal.coe_one] at q
  simp [hd]
  rw [← EReal.coe_one, Ideal.tanh_coe]

/-- The reference's first score. -/
theorem oneEdge_reference : tailT (adjT S M) (projT X W B) (ix3 0 0 0) = 0 := by
  rw [tailT_at]
  simp only [oneEdge_proj X S M W B h]
  have hy : max (∑ j : Fin 2048, adjT S M (ix3 0 0 j)) (1 : EReal) ≠ 0 :=
    (lt_of_lt_of_le zero_lt_one (le_max_right _ _)).ne'
  have hd (y : EReal) (hy : y ≠ 0) : Ideal.div 0 y = ((0 : ℝ) : EReal) := by
    unfold Ideal.div
    rw [if_neg hy, zero_mul, EReal.coe_zero]
  have h0 := hd _ hy
  simp [h0]
  rw [← EReal.coe_zero, Ideal.tanh_coe, Real.tanh_zero]

end Values

/-- The first element of the result, as the postconditions read it. -/
theorem first_at (T : FVec Ideal SM .f32) (hs : SM.Slices ![0, 0, 0] ⟨3, ![1, 1, 1]⟩) (hc : (⟨3, ![1, 1, 1]⟩ : Shape).ShapeCasts ⟨0, ![]⟩)
    (j : (⟨0, ![]⟩ : Shape).Idx) : shapeCast ⟨0, ![]⟩ (extractStridedSlice ⟨3, ![1, 1, 1]⟩ ![0, 0, 0] T hs) hc j = T (ix3 0 0 0) := by
  pointwise

/-- `Cert.holds_KernelIdeal_first_positive_pre_one_edge`. -/
theorem kernel_positive : Cert.holds_KernelIdeal_first_positive_pre_one_edge := by
  intro m g hpre
  refine (θ_run Cert.KernelIdeal.defs _ _).mono (fun r h c => ?_) (run (F := Ideal) m g)
  obtain ⟨e, a0, a1, a2, a3, a4⟩ := h.1 c
  refine ⟨a0, a1, a2, a3, a4, ?_⟩
  have hone := oneEdge_of_pre _ _ _ _ _ (hpre c)
  rw [e]
  funext j
  dsimp only [Cert.Post_first_positive.fn, cmpf]
  rw [first_at]
  have hv := oneEdge_kernel _ _ _ _ _ hone
  have hpos : (0 : EReal) < resV m c (ix3 0 0 0) :=
    (EReal.coe_pos.2 tanh_one_pos).trans_eq hv.symm
  show Ideal.cmp .ogt (resV m c (ix3 0 0 0)) (Ideal.ofBits .f32 0x00000000#32) = 1#1
  rw [Ideal.ofBits_zero_f32]
  simp [Ideal.cmp, hpos]

/-- `Cert.holds_ReferenceIdeal_first_zero_pre_one_edge`. -/
theorem reference_zero : Cert.holds_ReferenceIdeal_first_zero_pre_one_edge := by
  intro m g hpre
  refine (θ_run Cert.ReferenceIdeal.defs _ _).mono (fun r h c => ?_) (Cert.ReferenceIdeal.Value.run (F := Ideal) m g)
  obtain ⟨e, a0, a1, a2, a3, a4⟩ := h c
  refine ⟨a0, a1, a2, a3, a4, ?_⟩
  have hone := oneEdge_of_pre _ _ _ _ _ (hpre c)
  rw [e, res_eq]
  funext j
  dsimp only [Cert.Post_first_zero.fn, cmpf]
  rw [first_at]
  have hv := oneEdge_reference _ _ _ _ _ hone
  show Ideal.cmp .oeq _ (Ideal.ofBits .f32 0x00000000#32) = 1#1
  rw [Ideal.ofBits_zero_f32, hv]
  simp [Ideal.cmp]

end Cert.Proof.Tau

end
-- ==== Proof.lean ====
module

public import proofs.«01_k».proof.Defs
public import proofs.«01_k».proof.Proof.Run
public import proofs.«01_k».proof.Proof.Value
public import proofs.«01_k».proof.Proof.OneEdge
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceWIdeal
public import proofs.«01_k».proof.Proof.Gen.ReferenceWIdeal.Run
public import proofs.«01_k».proof.Proof.Gen.Pre_proper
public import proofs.«01_k».proof.Proof.Gen.Pre_proper_symmetric
public import proofs.«01_k».proof.Proof.Gen.Pre_one_edge
public import proofs.«01_k».proof.Proof.Gen.Post_first_positive
public import proofs.«01_k».proof.Proof.Gen.Post_first_zero

@[expose] public section

namespace Cert.Proof

open Cert.Proof.Tau

/-- Everything claimed. A frame under a precondition is the frame without it; the two readings of the kernel's text are
    the same text, so the change from the one to the other is nothing to prove. -/
theorem claim : Cert.Claim :=
  ⟨Cert.Kernel.Gen.facts, Cert.KernelIdeal.Gen.facts, Cert.ReferenceIdeal.Gen.facts, Cert.ReferenceWIdeal.Gen.facts,
    Cert.Pre_proper_symmetric.Gen.facts, Cert.Pre_proper.Gen.facts, Cert.Pre_one_edge.Gen.facts,
    Cert.Post_first_positive.Gen.facts, Cert.Post_first_zero.Gen.facts,
    frame_kernel,
    frame_ideal,
    fun m g _ => frame_ideal m g trivial,
    fun m g _ => frame_ideal m g trivial,
    fun m g _ => frame_ideal m g trivial,
    frame_reference,
    fun m g _ => frame_reference m g trivial,
    fun m g _ => frame_reference m g trivial,
    frame_referenceW,
    fun m g _ => frame_referenceW m g trivial,
    trivial,
    algebraic_rows,
    algebraic_columns,
    kernel_positive,
    reference_zero⟩

end Cert.Proof
